-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v57) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x21504 : Shape := ⟨2, ![8192, 21504]⟩
abbrev S3x8 : Shape := ⟨2, ![3, 8]⟩
abbrev S8192x6144 : Shape := ⟨2, ![8192, 6144]⟩
abbrev S_ : Shape := ⟨0, ![]⟩

class Facts : Prop where
  slices_S8192x21504_S8192x6144_0_0 : S8192x21504.Slices ![0, 0] S8192x6144
  bcast_S_S8192x6144 : S_.BroadcastsInDim S8192x6144 (![] : Fin 0 → Fin S8192x6144.rank)
  bcast_S_S3x8 : S_.BroadcastsInDim S3x8 (![] : Fin 0 → Fin S3x8.rank)

variable [Facts]

def fn {F : FTy → Type} [FloatOps F] (main_arg0 : FVec F S8192x21504 .f32) (main_arg1 : FVec F S3x8 .f32) : IVec S8192x6144 1 × IVec S3x8 1 :=
  let main_v0 : FVec F S8192x6144 .f32 := (extractStridedSlice S8192x6144 ![0, 0] · slices_S8192x21504_S8192x6144_0_0) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_v4 : FVec F S3x8 .f32 := Host.absf main_arg1
  let main_cst_0 : FVec F S_ .f32 := constant S_ .f32 0x7F800000#32
  let main_v5 : FVec F S3x8 .f32 := broadcastInDim S3x8 ![] bcast_S_S3x8 main_cst_0
  let main_v6 : IVec S3x8 1 := cmpf .olt main_v4 main_v5
  (main_v3, main_v6)
-- ==== Kernel.lean ====
abbrev S8192x21504 : Shape := ⟨2, ![8192, 21504]⟩
abbrev S3x8 : Shape := ⟨2, ![3, 8]⟩
abbrev S4x2048x21504 : Shape := ⟨3, ![4, 2048, 21504]⟩
abbrev S4x2048x1024 : Shape := ⟨3, ![4, 2048, 1024]⟩
abbrev S1x2048x128 : Shape := ⟨3, ![1, 2048, 128]⟩
abbrev S3x2048x128 : Shape := ⟨3, ![3, 2048, 128]⟩
abbrev S128x128 : Shape := ⟨2, ![128, 128]⟩
abbrev S128x256 : Shape := ⟨2, ![128, 256]⟩
abbrev S1x1 : Shape := ⟨2, ![1, 1]⟩
abbrev S1x128x128 : Shape := ⟨3, ![1, 128, 128]⟩
abbrev S16x128x128 : Shape := ⟨3, ![16, 128, 128]⟩
abbrev S256x128 : Shape := ⟨2, ![256, 128]⟩
abbrev S1x256x128 : Shape := ⟨3, ![1, 256, 128]⟩
abbrev S16x256x128 : Shape := ⟨3, ![16, 256, 128]⟩
abbrev S1x128x256 : Shape := ⟨3, ![1, 128, 256]⟩
abbrev S15x128x256 : Shape := ⟨3, ![15, 128, 256]⟩
abbrev S16x128x256 : Shape := ⟨3, ![16, 128, 256]⟩
abbrev S16x128 : Shape := ⟨2, ![16, 128]⟩
abbrev S16x128x1 : Shape := ⟨3, ![16, 128, 1]⟩
abbrev S1x128x1 : Shape := ⟨3, ![1, 128, 1]⟩
abbrev S128x1 : Shape := ⟨2, ![128, 1]⟩
abbrev S4x128x256 : Shape := ⟨3, ![4, 128, 256]⟩
abbrev S12x128x256 : Shape := ⟨3, ![12, 128, 256]⟩

abbrev nBuf : Space → Nat
  | .hbm => 4
  | .vmem => 22
  | .smem => 1
  | _ => 0

abbrev bufTy : (tb : Table) → Fin (tcTables nBuf tb) → BufTy
  | .hbm, ⟨0, _⟩ => ⟨S8192x21504, .f32⟩
  | .hbm, ⟨1, _⟩ => ⟨S3x8, .f32⟩
  | .hbm, ⟨2, _⟩ => ⟨S4x2048x21504, .f32⟩
  | .hbm, ⟨3, _⟩ => ⟨S4x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .bf16⟩
  | .local _ .vmem, ⟨19, _⟩ => ⟨S1x2048x128, .bf16⟩
  | .local _ .vmem, ⟨20, _⟩ => ⟨S3x2048x128, .f32⟩
  | .local _ .vmem, ⟨21, _⟩ => ⟨S3x2048x128, .f32⟩
  | .local _ .smem, ⟨0, _⟩ => ⟨S3x8, .f32⟩
  | _, _ => ⟨S8192x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def k0_off1 (i : grid0.Coords) : Fin 2 → Nat :=
  let c0 : Index := 0#32
  let arg1 : BitVec 32 := BitVec.ofNat 32 (i 1).val
  let v8 : Index := Scalar.indexCast arg1
  ![0, v8.toNat]
def k0_off2 (i : grid0.Coords) : Fin 2 → Nat :=
  let c1 : Index := 1#32
  let arg1 : BitVec 32 := BitVec.ofNat 32 (i 1).val
  let v460 : Index := Scalar.indexCast arg1
  ![1, v460.toNat]
def k0_off3 (i : grid0.Coords) : Fin 2 → Nat :=
  let c2_480 : Index := 2#32
  let arg1 : BitVec 32 := BitVec.ofNat 32 (i 1).val
  let v914 : Index := Scalar.indexCast arg1
  ![2, v914.toNat]
@[reducible] def k0_t1_loop : Scf.Loop 32 :=
  let c0_i32_718 : BitVec 32 := 0#32
  let c16_i32 : BitVec 32 := 16#32
  let v1317 : BitVec 32 := Scalar.addi c0_i32_718 c16_i32
  let c1_i32 : BitVec 32 := 1#32
  ⟨c0_i32_718, v1317, c1_i32⟩
def k0_mult1 (k0_t1 : Fin k0_t1_loop.trips) : BitVec 32 :=
  let c0_i32_718 : BitVec 32 := 0#32
  let c1_i32 : BitVec 32 := 1#32
  let arg15 : BitVec 32 := Scf.iv c0_i32_718 c1_i32 k0_t1
  let c128_i32_720 : BitVec 32 := 128#32
  let v1318 : BitVec 32 := Scalar.muli arg15 c128_i32_720
  v1318
def k0_off4 (k0_t1 : Fin k0_t1_loop.trips) : Fin 3 → Nat :=
  let c0_721 : Index := 0#32
  let c0_i32_718 : BitVec 32 := 0#32
  let c1_i32 : BitVec 32 := 1#32
  let arg15 : BitVec 32 := Scf.iv c0_i32_718 c1_i32 k0_t1
  let c128_i32_720 : BitVec 32 := 128#32
  let v1318 : BitVec 32 := Scalar.muli arg15 c128_i32_720
  let v1319 : BitVec 32 := v1318
  let v1320 : Index := Scalar.indexCast v1319
  let c0_722 : Index := 0#32
  ![0, v1320.toNat, 0]
def k0_off5 (k0_t1 : Fin k0_t1_loop.trips) : Fin 3 → Nat :=
  let c1_723 : Index := 1#32
  let c0_i32_718 : BitVec 32 := 0#32
  let c1_i32 : BitVec 32 := 1#32
  let arg15 : BitVec 32 := Scf.iv c0_i32_718 c1_i32 k0_t1
  let c128_i32_720 : BitVec 32 := 128#32
  let v1318 : BitVec 32 := Scalar.muli arg15 c128_i32_720
  let v1319 : BitVec 32 := v1318
  let v1323 : Index := Scalar.indexCast v1319
  let c0_724 : Index := 0#32
  ![1, v1323.toNat, 0]
def k0_off6 (k0_t1 : Fin k0_t1_loop.trips) : Fin 3 → Nat :=
  let c2_725 : Index := 2#32
  let c0_i32_718 : BitVec 32 := 0#32
  let c1_i32 : BitVec 32 := 1#32
  let arg15 : BitVec 32 := Scf.iv c0_i32_718 c1_i32 k0_t1
  let c128_i32_720 : BitVec 32 := 128#32
  let v1318 : BitVec 32 := Scalar.muli arg15 c128_i32_720
  let v1319 : BitVec 32 := v1318
  let v1326 : Index := Scalar.indexCast v1319
  let c0_726 : Index := 0#32
  ![2, v1326.toNat, 0]
def k0_off7 (k0_t1 : Fin k0_t1_loop.trips) : Fin 3 → Nat :=
  let c0_733 : Index := 0#32
  let c0_i32_718 : BitVec 32 := 0#32
  let c1_i32 : BitVec 32 := 1#32
  let arg15 : BitVec 32 := Scf.iv c0_i32_718 c1_i32 k0_t1
  let c128_i32_720 : BitVec 32 := 128#32
  let v1318 : BitVec 32 := Scalar.muli arg15 c128_i32_720
  let v1319 : BitVec 32 := v1318
  let v1357 : Index := Scalar.indexCast v1319
  let c0_734 : Index := 0#32
  ![0, v1357.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x21504 : Shape := ⟨2, ![8192, 21504]⟩
abbrev S3x8 : Shape := ⟨2, ![3, 8]⟩
abbrev S8192x3072 : Shape := ⟨2, ![8192, 3072]⟩
abbrev S4x2048x3x8x128 : Shape := ⟨5, ![4, 2048, 3, 8, 128]⟩
abbrev S4x2048x1x8x128 : Shape := ⟨5, ![4, 2048, 1, 8, 128]⟩
abbrev S4x2048x8x128 : Shape := ⟨4, ![4, 2048, 8, 128]⟩
abbrev S1x8 : Shape := ⟨2, ![1, 8]⟩
abbrev S8 : Shape := ⟨1, ![8]⟩
abbrev S129 : Shape := ⟨1, ![129]⟩
abbrev S_ : Shape := ⟨0, ![]⟩
abbrev S8x1 : Shape := ⟨2, ![8, 1]⟩
abbrev S1x129 : Shape := ⟨2, ![1, 129]⟩
abbrev S8x129 : Shape := ⟨2, ![8, 129]⟩
abbrev S2048 : Shape := ⟨1, ![2048]⟩
abbrev S2048x1 : Shape := ⟨2, ![2048, 1]⟩
abbrev S2048x129 : Shape := ⟨2, ![2048, 129]⟩
abbrev S2048x129x1 : Shape := ⟨3, ![2048, 129, 1]⟩
abbrev S4x2048x129x8x128 : Shape := ⟨5, ![4, 2048, 129, 8, 128]⟩
abbrev S4x8x2048x129 : Shape := ⟨4, ![4, 8, 2048, 129]⟩
abbrev S1x1x2048x129 : Shape := ⟨4, ![1, 1, 2048, 129]⟩
abbrev S1x8x1x129 : Shape := ⟨4, ![1, 8, 1, 129]⟩
abbrev S4x8x2048 : Shape := ⟨3, ![4, 8, 2048]⟩
abbrev S4x8x2048x1 : Shape := ⟨4, ![4, 8, 2048, 1]⟩
abbrev S4x2048x8 : Shape := ⟨3, ![4, 2048, 8]⟩
abbrev S1x4x2048x8 : Shape := ⟨4, ![1, 4, 2048, 8]⟩
abbrev S3x4x2048x8 : Shape := ⟨4, ![3, 4, 2048, 8]⟩
abbrev S3x4x2048x8x1 : Shape := ⟨5, ![3, 4, 2048, 8, 1]⟩
abbrev S1x4x2048x8x128 : Shape := ⟨5, ![1, 4, 2048, 8, 128]⟩
abbrev S3x4x2048x8x128 : Shape := ⟨5, ![3, 4, 2048, 8, 128]⟩
abbrev S4x2048x1024 : Shape := ⟨3, ![4, 2048, 1024]⟩

abbrev nBuf : Space → Nat
  | .hbm => 271
  | .vmem => 0
  | .smem => 0
  | _ => 0

abbrev hbmTy0_0 (i : Nat) : BufTy := match i % 128 with
  | 0 => ⟨S8192x21504, .f32⟩
  | 1 => ⟨S3x8, .f32⟩
  | 2 => ⟨S8192x3072, .f32⟩
  | 3 => ⟨S4x2048x3x8x128, .f32⟩
  | 4 => ⟨S8192x3072, .f32⟩
  | 5 => ⟨S4x2048x3x8x128, .f32⟩
  | 6 => ⟨S8192x3072, .f32⟩
  | 7 => ⟨S4x2048x3x8x128, .f32⟩
  | 8 => ⟨S4x2048x1x8x128, .f32⟩
  | 9 => ⟨S4x2048x8x128, .f32⟩
  | 10 => ⟨S4x2048x1x8x128, .f32⟩
  | 11 => ⟨S4x2048x8x128, .f32⟩
  | 12 => ⟨S4x2048x1x8x128, .f32⟩
  | 13 => ⟨S4x2048x8x128, .f32⟩
  | 14 => ⟨S1x8, .f32⟩
  | 15 => ⟨S8, .f32⟩
  | 16 => ⟨S129, .i32⟩
  | 17 => ⟨S_, .i32⟩
  | 18 => ⟨S129, .i32⟩
  | 19 => ⟨S129, .i32⟩
  | 20 => ⟨S8x1, .f32⟩
  | 21 => ⟨S8x1, .f32⟩
  | 22 => ⟨S129, .f32⟩
  | 23 => ⟨S1x129, .f32⟩
  | 24 => ⟨S8x129, .f32⟩
  | 25 => ⟨S8x129, .f32⟩
  | 26 => ⟨S8x129, .f32⟩
  | 27 => ⟨S2048, .i32⟩
  | 28 => ⟨S2048x1, .i32⟩
  | 29 => ⟨S1x129, .i32⟩
  | 30 => ⟨S2048x129, .i32⟩
  | 31 => ⟨S2048x129, .i32⟩
  | 32 => ⟨S2048x129, .i32⟩
  | 33 => ⟨S_, .i32⟩
  | 34 => ⟨S2048x129, .i32⟩
  | 35 => ⟨S2048x129, .i1⟩
  | 36 => ⟨S_, .i32⟩
  | 37 => ⟨S2048x129, .i32⟩
  | 38 => ⟨S2048x129, .i32⟩
  | 39 => ⟨S_, .i32⟩
  | 40 => ⟨S2048x129, .i32⟩
  | 41 => ⟨S2048x129, .i1⟩
  | 42 => ⟨S_, .i32⟩
  | 43 => ⟨S2048x129, .i32⟩
  | 44 => ⟨S2048x129, .i32⟩
  | 45 => ⟨S2048x129, .i32⟩
  | 46 => ⟨S2048x129x1, .i32⟩
  | 47 => ⟨S4x2048x129x8x128, .f32⟩
  | 48 => ⟨S_, .i32⟩
  | 49 => ⟨S2048x129, .i32⟩
  | 50 => ⟨S2048x129, .i1⟩
  | 51 => ⟨S_, .i32⟩
  | 52 => ⟨S2048x129, .i32⟩
  | 53 => ⟨S2048x129, .i32⟩
  | 54 => ⟨S2048x129, .i32⟩
  | 55 => ⟨S2048x129x1, .i32⟩
  | 56 => ⟨S4x2048x129x8x128, .f32⟩
  | 57 => ⟨S4x8x2048x129, .f32⟩
  | 58 => ⟨S_, .f32⟩
  | 59 => ⟨S4x8x2048x129, .f32⟩
  | 60 => ⟨S4x8x2048x129, .f32⟩
  | 61 => ⟨S1x1x2048x129, .i1⟩
  | 62 => ⟨S1x8x1x129, .f32⟩
  | 63 => ⟨S4x8x2048x129, .f32⟩
  | 64 => ⟨S4x8x2048x129, .f32⟩
  | 65 => ⟨S_, .f32⟩
  | 66 => ⟨S_, .f32⟩
  | 67 => ⟨S4x8x2048x129, .i1⟩
  | 68 => ⟨S4x8x2048x129, .f32⟩
  | 69 => ⟨S4x8x2048x129, .f32⟩
  | 70 => ⟨S_, .f32⟩
  | 71 => ⟨S4x8x2048, .f32⟩
  | 72 => ⟨S4x8x2048x1, .f32⟩
  | 73 => ⟨S4x8x2048x129, .f32⟩
  | 74 => ⟨S4x8x2048x129, .f32⟩
  | 75 => ⟨S4x8x2048x129, .f32⟩
  | 76 => ⟨S_, .f32⟩
  | 77 => ⟨S4x8x2048, .f32⟩
  | 78 => ⟨S4x8x2048x1, .f32⟩
  | 79 => ⟨S4x8x2048x129, .f32⟩
  | 80 => ⟨S4x8x2048x129, .f32⟩
  | 81 => ⟨S4x2048x8x128, .f32⟩
  | 82 => ⟨S4x8x2048x1, .f32⟩
  | 83 => ⟨S4x8x2048x1, .f32⟩
  | 84 => ⟨S4x8x2048, .f32⟩
  | 85 => ⟨S4x2048x8, .f32⟩
  | 86 => ⟨S4x2048x1x8x128, .f32⟩
  | 87 => ⟨S4x2048x8x128, .f32⟩
  | 88 => ⟨S4x2048x1x8x128, .f32⟩
  | 89 => ⟨S4x2048x8x128, .f32⟩
  | 90 => ⟨S4x2048x1x8x128, .f32⟩
  | 91 => ⟨S4x2048x8x128, .f32⟩
  | 92 => ⟨S1x8, .f32⟩
  | 93 => ⟨S8, .f32⟩
  | 94 => ⟨S129, .i32⟩
  | 95 => ⟨S_, .i32⟩
  | 96 => ⟨S129, .i32⟩
  | 97 => ⟨S129, .i32⟩
  | 98 => ⟨S8x1, .f32⟩
  | 99 => ⟨S8x1, .f32⟩
  | 100 => ⟨S129, .f32⟩
  | 101 => ⟨S1x129, .f32⟩
  | 102 => ⟨S8x129, .f32⟩
  | 103 => ⟨S8x129, .f32⟩
  | 104 => ⟨S8x129, .f32⟩
  | 105 => ⟨S2048, .i32⟩
  | 106 => ⟨S2048x1, .i32⟩
  | 107 => ⟨S1x129, .i32⟩
  | 108 => ⟨S2048x129, .i32⟩
  | 109 => ⟨S2048x129, .i32⟩
  | 110 => ⟨S2048x129, .i32⟩
  | 111 => ⟨S_, .i32⟩
  | 112 => ⟨S2048x129, .i32⟩
  | 113 => ⟨S2048x129, .i1⟩
  | 114 => ⟨S_, .i32⟩
  | 115 => ⟨S2048x129, .i32⟩
  | 116 => ⟨S2048x129, .i32⟩
  | 117 => ⟨S_, .i32⟩
  | 118 => ⟨S2048x129, .i32⟩
  | 119 => ⟨S2048x129, .i1⟩
  | 120 => ⟨S_, .i32⟩
  | 121 => ⟨S2048x129, .i32⟩
  | 122 => ⟨S2048x129, .i32⟩
  | 123 => ⟨S2048x129, .i32⟩
  | 124 => ⟨S2048x129x1, .i32⟩
  | 125 => ⟨S4x2048x129x8x128, .f32⟩
  | 126 => ⟨S_, .i32⟩
  | 127 => ⟨S2048x129, .i32⟩
  | _ => ⟨S8192x21504, .f32⟩

abbrev hbmTy0_1 (i : Nat) : BufTy := match i % 128 with
  | 0 => ⟨S2048x129, .i1⟩
  | 1 => ⟨S_, .i32⟩
  | 2 => ⟨S2048x129, .i32⟩
  | 3 => ⟨S2048x129, .i32⟩
  | 4 => ⟨S2048x129, .i32⟩
  | 5 => ⟨S2048x129x1, .i32⟩
  | 6 => ⟨S4x2048x129x8x128, .f32⟩
  | 7 => ⟨S4x8x2048x129, .f32⟩
  | 8 => ⟨S_, .f32⟩
  | 9 => ⟨S4x8x2048x129, .f32⟩
  | 10 => ⟨S4x8x2048x129, .f32⟩
  | 11 => ⟨S1x1x2048x129, .i1⟩
  | 12 => ⟨S1x8x1x129, .f32⟩
  | 13 => ⟨S4x8x2048x129, .f32⟩
  | 14 => ⟨S4x8x2048x129, .f32⟩
  | 15 => ⟨S_, .f32⟩
  | 16 => ⟨S_, .f32⟩
  | 17 => ⟨S4x8x2048x129, .i1⟩
  | 18 => ⟨S4x8x2048x129, .f32⟩
  | 19 => ⟨S4x8x2048x129, .f32⟩
  | 20 => ⟨S_, .f32⟩
  | 21 => ⟨S4x8x2048, .f32⟩
  | 22 => ⟨S4x8x2048x1, .f32⟩
  | 23 => ⟨S4x8x2048x129, .f32⟩
  | 24 => ⟨S4x8x2048x129, .f32⟩
  | 25 => ⟨S4x8x2048x129, .f32⟩
  | 26 => ⟨S_, .f32⟩
  | 27 => ⟨S4x8x2048, .f32⟩
  | 28 => ⟨S4x8x2048x1, .f32⟩
  | 29 => ⟨S4x8x2048x129, .f32⟩
  | 30 => ⟨S4x8x2048x129, .f32⟩
  | 31 => ⟨S4x2048x8x128, .f32⟩
  | 32 => ⟨S4x8x2048x1, .f32⟩
  | 33 => ⟨S4x8x2048x1, .f32⟩
  | 34 => ⟨S4x8x2048, .f32⟩
  | 35 => ⟨S4x2048x8, .f32⟩
  | 36 => ⟨S4x2048x1x8x128, .f32⟩
  | 37 => ⟨S4x2048x8x128, .f32⟩
  | 38 => ⟨S4x2048x1x8x128, .f32⟩
  | 39 => ⟨S4x2048x8x128, .f32⟩
  | 40 => ⟨S4x2048x1x8x128, .f32⟩
  | 41 => ⟨S4x2048x8x128, .f32⟩
  | 42 => ⟨S1x8, .f32⟩
  | 43 => ⟨S8, .f32⟩
  | 44 => ⟨S129, .i32⟩
  | 45 => ⟨S_, .i32⟩
  | 46 => ⟨S129, .i32⟩
  | 47 => ⟨S129, .i32⟩
  | 48 => ⟨S8x1, .f32⟩
  | 49 => ⟨S8x1, .f32⟩
  | 50 => ⟨S129, .f32⟩
  | 51 => ⟨S1x129, .f32⟩
  | 52 => ⟨S8x129, .f32⟩
  | 53 => ⟨S8x129, .f32⟩
  | 54 => ⟨S8x129, .f32⟩
  | 55 => ⟨S2048, .i32⟩
  | 56 => ⟨S2048x1, .i32⟩
  | 57 => ⟨S1x129, .i32⟩
  | 58 => ⟨S2048x129, .i32⟩
  | 59 => ⟨S2048x129, .i32⟩
  | 60 => ⟨S2048x129, .i32⟩
  | 61 => ⟨S_, .i32⟩
  | 62 => ⟨S2048x129, .i32⟩
  | 63 => ⟨S2048x129, .i1⟩
  | 64 => ⟨S_, .i32⟩
  | 65 => ⟨S2048x129, .i32⟩
  | 66 => ⟨S2048x129, .i32⟩
  | 67 => ⟨S_, .i32⟩
  | 68 => ⟨S2048x129, .i32⟩
  | 69 => ⟨S2048x129, .i1⟩
  | 70 => ⟨S_, .i32⟩
  | 71 => ⟨S2048x129, .i32⟩
  | 72 => ⟨S2048x129, .i32⟩
  | 73 => ⟨S2048x129, .i32⟩
  | 74 => ⟨S2048x129x1, .i32⟩
  | 75 => ⟨S4x2048x129x8x128, .f32⟩
  | 76 => ⟨S_, .i32⟩
  | 77 => ⟨S2048x129, .i32⟩
  | 78 => ⟨S2048x129, .i1⟩
  | 79 => ⟨S_, .i32⟩
  | 80 => ⟨S2048x129, .i32⟩
  | 81 => ⟨S2048x129, .i32⟩
  | 82 => ⟨S2048x129, .i32⟩
  | 83 => ⟨S2048x129x1, .i32⟩
  | 84 => ⟨S4x2048x129x8x128, .f32⟩
  | 85 => ⟨S4x8x2048x129, .f32⟩
  | 86 => ⟨S_, .f32⟩
  | 87 => ⟨S4x8x2048x129, .f32⟩
  | 88 => ⟨S4x8x2048x129, .f32⟩
  | 89 => ⟨S1x1x2048x129, .i1⟩
  | 90 => ⟨S1x8x1x129, .f32⟩
  | 91 => ⟨S4x8x2048x129, .f32⟩
  | 92 => ⟨S4x8x2048x129, .f32⟩
  | 93 => ⟨S_, .f32⟩
  | 94 => ⟨S_, .f32⟩
  | 95 => ⟨S4x8x2048x129, .i1⟩
  | 96 => ⟨S4x8x2048x129, .f32⟩
  | 97 => ⟨S4x8x2048x129, .f32⟩
  | 98 => ⟨S_, .f32⟩
  | 99 => ⟨S4x8x2048, .f32⟩
  | 100 => ⟨S4x8x2048x1, .f32⟩
  | 101 => ⟨S4x8x2048x129, .f32⟩
  | 102 => ⟨S4x8x2048x129, .f32⟩
  | 103 => ⟨S4x8x2048x129, .f32⟩
  | 104 => ⟨S_, .f32⟩
  | 105 => ⟨S4x8x2048, .f32⟩
  | 106 => ⟨S4x8x2048x1, .f32⟩
  | 107 => ⟨S4x8x2048x129, .f32⟩
  | 108 => ⟨S4x8x2048x129, .f32⟩
  | 109 => ⟨S4x2048x8x128, .f32⟩
  | 110 => ⟨S4x8x2048x1, .f32⟩
  | 111 => ⟨S4x8x2048x1, .f32⟩
  | 112 => ⟨S4x8x2048, .f32⟩
  | 113 => ⟨S4x2048x8, .f32⟩
  | 114 => ⟨S1x4x2048x8, .f32⟩
  | 115 => ⟨S1x4x2048x8, .f32⟩
  | 116 => ⟨S1x4x2048x8, .f32⟩
  | 117 => ⟨S3x4x2048x8, .f32⟩
  | 118 => ⟨S_, .f32⟩
  | 119 => ⟨S4x2048x8, .f32⟩
  | 120 => ⟨S_, .f32⟩
  | 121 => ⟨S4x2048x8, .f32⟩
  | 122 => ⟨S4x2048x8, .f32⟩
  | 123 => ⟨S1x4x2048x8, .f32⟩
  | 124 => ⟨S3x4x2048x8, .f32⟩
  | 125 => ⟨S3x4x2048x8, .f32⟩
  | 126 => ⟨S3x4x2048x8, .f32⟩
  | 127 => ⟨S_, .f32⟩
  | _ => ⟨S8192x21504, .f32⟩

abbrev hbmTy0_2 (i : Nat) : BufTy := match i % 128 with
  | 0 => ⟨S4x2048x8, .f32⟩
  | 1 => ⟨S1x4x2048x8, .f32⟩
  | 2 => ⟨S3x4x2048x8, .f32⟩
  | 3 => ⟨S3x4x2048x8, .f32⟩
  | 4 => ⟨S3x4x2048x8x1, .f32⟩
  | 5 => ⟨S1x4x2048x8x128, .f32⟩
  | 6 => ⟨S1x4x2048x8x128, .f32⟩
  | 7 => ⟨S1x4x2048x8x128, .f32⟩
  | 8 => ⟨S3x4x2048x8x128, .f32⟩
  | 9 => ⟨S3x4x2048x8x128, .f32⟩
  | 10 => ⟨S3x4x2048x8x128, .f32⟩
  | 11 => ⟨S_, .f32⟩
  | 12 => ⟨S4x2048x8x128, .f32⟩
  | 13 => ⟨S4x2048x1024, .f32⟩
  | 14 => ⟨S4x2048x1024, .bf16⟩
  | _ => ⟨S8192x21504, .f32⟩

abbrev hbmTy (i : Nat) : BufTy := match i / 128 with
  | 0 => hbmTy0_0 i
  | 1 => hbmTy0_1 i
  | 2 => hbmTy0_2 i
  | _ => ⟨S8192x21504, .f32⟩

abbrev bufTy : (tb : Table) → Fin (tcTables nBuf tb) → BufTy
  | .hbm, ⟨i, _⟩ => hbmTy i
  | _, _ => ⟨S8192x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_c_0 : Ref sig .tc := ⟨.hbm, 33, rfl⟩
abbrev main_v30 : Ref sig .tc := ⟨.hbm, 34, rfl⟩
abbrev main_v31 : Ref sig .tc := ⟨.hbm, 35, rfl⟩
abbrev main_c_1 : Ref sig .tc := ⟨.hbm, 36, rfl⟩
abbrev main_v32 : Ref sig .tc := ⟨.hbm, 37, rfl⟩
abbrev main_v33 : Ref sig .tc := ⟨.hbm, 38, rfl⟩
abbrev main_c_2 : Ref sig .tc := ⟨.hbm, 39, rfl⟩
abbrev main_v34 : Ref sig .tc := ⟨.hbm, 40, rfl⟩
abbrev main_v35 : Ref sig .tc := ⟨.hbm, 41, rfl⟩
abbrev main_c_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_4 : Ref sig .tc := ⟨.hbm, 48, rfl⟩
abbrev main_v41 : Ref sig .tc := ⟨.hbm, 49, rfl⟩
abbrev main_v42 : Ref sig .tc := ⟨.hbm, 50, rfl⟩
abbrev main_c_5 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_6 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_c_9 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_c_10 : Ref sig .tc := ⟨.hbm, 111, rfl⟩
abbrev main_v94 : Ref sig .tc := ⟨.hbm, 112, rfl⟩
abbrev main_v95 : Ref sig .tc := ⟨.hbm, 113, rfl⟩
abbrev main_c_11 : Ref sig .tc := ⟨.hbm, 114, rfl⟩
abbrev main_v96 : Ref sig .tc := ⟨.hbm, 115, rfl⟩
abbrev main_v97 : Ref sig .tc := ⟨.hbm, 116, rfl⟩
abbrev main_c_12 : Ref sig .tc := ⟨.hbm, 117, rfl⟩
abbrev main_v98 : Ref sig .tc := ⟨.hbm, 118, rfl⟩
abbrev main_v99 : Ref sig .tc := ⟨.hbm, 119, rfl⟩
abbrev main_c_13 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_c_14 : Ref sig .tc := ⟨.hbm, 126, rfl⟩
abbrev main_v105 : Ref sig .tc := ⟨.hbm, 127, rfl⟩
abbrev main_v106 : Ref sig .tc := ⟨.hbm, 128, rfl⟩
abbrev main_c_15 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_16 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_17 : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_v119 : Ref sig .tc := ⟨.hbm, 147, rfl⟩
abbrev main_cst_18 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_19 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_c_20 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_c_21 : Ref sig .tc := ⟨.hbm, 189, rfl⟩
abbrev main_v158 : Ref sig .tc := ⟨.hbm, 190, rfl⟩
abbrev main_v159 : Ref sig .tc := ⟨.hbm, 191, rfl⟩
abbrev main_c_22 : Ref sig .tc := ⟨.hbm, 192, rfl⟩
abbrev main_v160 : Ref sig .tc := ⟨.hbm, 193, rfl⟩
abbrev main_v161 : Ref sig .tc := ⟨.hbm, 194, rfl⟩
abbrev main_c_23 : Ref sig .tc := ⟨.hbm, 195, rfl⟩
abbrev main_v162 : Ref sig .tc := ⟨.hbm, 196, rfl⟩
abbrev main_v163 : Ref sig .tc := ⟨.hbm, 197, rfl⟩
abbrev main_c_24 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_c_25 : Ref sig .tc := ⟨.hbm, 204, rfl⟩
abbrev main_v169 : Ref sig .tc := ⟨.hbm, 205, rfl⟩
abbrev main_v170 : Ref sig .tc := ⟨.hbm, 206, rfl⟩
abbrev main_c_26 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_27 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_28 : Ref sig .tc := ⟨.hbm, 221, rfl⟩
abbrev main_call2_v0 : Ref sig .tc := ⟨.hbm, 222, rfl⟩
abbrev main_call2_v1 : Ref sig .tc := ⟨.hbm, 223, rfl⟩
abbrev main_call2_v2 : Ref sig .tc := ⟨.hbm, 224, rfl⟩
abbrev main_v183 : Ref sig .tc := ⟨.hbm, 225, rfl⟩
abbrev main_cst_29 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_cst_30 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_cst_31 : Ref sig .tc := ⟨.hbm, 246, rfl⟩
abbrev main_v202 : Ref sig .tc := ⟨.hbm, 247, rfl⟩
abbrev main_cst_32 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_33 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_cst_34 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩

abbrev nD : Nat := 1
abbrev τ : Topo := Topo.v7x

variable {F : FTy → Type} [FloatOps F]
-- ==== Kernel2.lean ====
abbrev S8192x4096 : Shape := ⟨2, ![8192, 4096]⟩
abbrev S4096x21504 : Shape := ⟨2, ![4096, 21504]⟩
abbrev S8192x21504 : Shape := ⟨2, ![8192, 21504]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x21504, .f32⟩
  | .hbm, ⟨2, _⟩ => ⟨S8192x21504, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 42], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S4096x21504 : Shape := ⟨2, ![4096, 21504]⟩
abbrev S8192x21504 : Shape := ⟨2, ![8192, 21504]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x21504, .f32⟩
  | .hbm, ⟨2, _⟩ => ⟨S8192x4096, .f32⟩
  | .hbm, ⟨3, _⟩ => ⟨S8192x21504, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S8192x1024 : Shape := ⟨2, ![8192, 1024]⟩
abbrev S8192x2048 : Shape := ⟨2, ![8192, 2048]⟩
abbrev S8192x21504 : Shape := ⟨2, ![8192, 21504]⟩
abbrev S1024x4096 : Shape := ⟨2, ![1024, 4096]⟩
abbrev S2048x4096 : Shape := ⟨2, ![2048, 4096]⟩
abbrev S8192x4096 : Shape := ⟨2, ![8192, 4096]⟩
abbrev S1024x1024 : Shape := ⟨2, ![1024, 1024]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x21504, .f32⟩
  | .hbm, ⟨3, _⟩ => ⟨S1024x4096, .f32⟩
  | .hbm, ⟨4, _⟩ => ⟨S2048x4096, .f32⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S2048x512, .f32⟩
  | .local _ .vmem, ⟨11, _⟩ => ⟨S2048x512, .f32⟩
  | .local _ .vmem, ⟨12, _⟩ => ⟨S1024x512, .bf16⟩
  | .local _ .vmem, ⟨13, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi arg1 c26_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi arg1 c34_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x1024 : Shape := ⟨2, ![8192, 1024]⟩
abbrev S8192x2048 : Shape := ⟨2, ![8192, 2048]⟩
abbrev S8192x21504 : Shape := ⟨2, ![8192, 21504]⟩
abbrev S1024x4096 : Shape := ⟨2, ![1024, 4096]⟩
abbrev S2048x4096 : Shape := ⟨2, ![2048, 4096]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x21504, .f32⟩
  | .hbm, ⟨3, _⟩ => ⟨S1024x4096, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x2048, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S4x1x24576 : Shape := ⟨3, ![4, 1, 24576]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x1x24576, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi arg1 c16_i32
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S4096x4096 : Shape := ⟨2, ![4096, 4096]⟩
abbrev S4x1x24576 : Shape := ⟨3, ![4, 1, 24576]⟩
abbrev S4x1x6x4096 : Shape := ⟨4, ![4, 1, 6, 4096]⟩
abbrev S4x1x1x4096 : Shape := ⟨4, ![4, 1, 1, 4096]⟩
abbrev S4x1x4096 : Shape := ⟨3, ![4, 1, 4096]⟩
abbrev S4x2048x4096 : Shape := ⟨3, ![4, 2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S4x1x24576, .f32⟩
  | .hbm, ⟨4, _⟩ => ⟨S4x1x6x4096, .f32⟩
  | .hbm, ⟨5, _⟩ => ⟨S4x1x1x4096, .f32⟩
  | .hbm, ⟨6, _⟩ => ⟨S4x1x4096, .f32⟩
  | .hbm, ⟨7, _⟩ => ⟨S4x2048x4096, .f32⟩
  | .hbm, ⟨8, _⟩ => ⟨S8192x4096, .f32⟩
  | .hbm, ⟨9, _⟩ => ⟨S8192x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x4096, .f32⟩
  | .hbm, ⟨3, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x4096 : Shape := ⟨2, ![8192, 4096]⟩
abbrev S4x1x24576 : Shape := ⟨3, ![4, 1, 24576]⟩
abbrev S4096 : Shape := ⟨1, ![4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x1x24576, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 32 := Scalar.addi arg1 c5_i32
  let c0_i32_4 : BitVec 32 := 0#32
  let c0_i32_5 : BitVec 32 := 0#32
  ![v16.toNat, c0_i32_4.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x4096 : Shape := ⟨2, ![8192, 4096]⟩
abbrev S4x1x24576 : Shape := ⟨3, ![4, 1, 24576]⟩
abbrev S4096 : Shape := ⟨1, ![4096]⟩
abbrev S4x1x6x4096 : Shape := ⟨4, ![4, 1, 6, 4096]⟩
abbrev S4x1x1x4096 : Shape := ⟨4, ![4, 1, 1, 4096]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x1x24576, .f32⟩
  | .hbm, ⟨3, _⟩ => ⟨S4096, .f32⟩
  | .hbm, ⟨4, _⟩ => ⟨S4x1x6x4096, .f32⟩
  | .hbm, ⟨5, _⟩ => ⟨S4x1x1x4096, .f32⟩
  | .hbm, ⟨6, _⟩ => ⟨S4x1x4096, .f32⟩
  | .hbm, ⟨7, _⟩ => ⟨S4x2048x4096, .f32⟩
  | .hbm, ⟨8, _⟩ => ⟨S4x2048x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S256x4096 : Shape := ⟨2, ![256, 4096]⟩
abbrev S256x24576 : Shape := ⟨2, ![256, 24576]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x24576, .f32⟩
  | .hbm, ⟨3, _⟩ => ⟨S4096, .f32⟩
  | .hbm, ⟨4, _⟩ => ⟨S1x4096, .f32⟩
  | .hbm, ⟨5, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S1x4096, .f32⟩
  | .local _ .vmem, ⟨4, _⟩ => ⟨S256x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference7Ideal.lean ====
abbrev S256x4096 : Shape := ⟨2, ![256, 4096]⟩
abbrev S256x24576 : Shape := ⟨2, ![256, 24576]⟩
abbrev S4096 : Shape := ⟨1, ![4096]⟩
abbrev S256x6x4096 : Shape := ⟨3, ![256, 6, 4096]⟩
abbrev S256x1x4096 : Shape := ⟨3, ![256, 1, 4096]⟩
abbrev S_ : Shape := ⟨0, ![]⟩
abbrev S256 : Shape := ⟨1, ![256]⟩
abbrev S256x1 : Shape := ⟨2, ![256, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x24576, .f32⟩
  | .hbm, ⟨3, _⟩ => ⟨S4096, .f32⟩
  | .hbm, ⟨4, _⟩ => ⟨S256x6x4096, .f32⟩
  | .hbm, ⟨5, _⟩ => ⟨S256x1x4096, .f32⟩
  | .hbm, ⟨6, _⟩ => ⟨S256x4096, .f32⟩
  | .hbm, ⟨7, _⟩ => ⟨S256x4096, .f32⟩
  | .hbm, ⟨8, _⟩ => ⟨S256x4096, .f32⟩
  | .hbm, ⟨9, _⟩ => ⟨S256x4096, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x4096, .f32⟩
  | .hbm, ⟨21, _⟩ => ⟨S256x4096, .f32⟩
  | .hbm, ⟨22, _⟩ => ⟨S1x4096, .f32⟩
  | .hbm, ⟨23, _⟩ => ⟨S256x4096, .f32⟩
  | .hbm, ⟨24, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S256x4096 : Shape := ⟨2, ![256, 4096]⟩
abbrev S4096x21504 : Shape := ⟨2, ![4096, 21504]⟩
abbrev S256x21504 : Shape := ⟨2, ![256, 21504]⟩
abbrev S4096x512 : Shape := ⟨2, ![4096, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x21504, .f32⟩
  | .hbm, ⟨2, _⟩ => ⟨S256x21504, .f32⟩
  | .local _ .vmem, ⟨0, _⟩ => ⟨S256x4096, .bf16⟩
  | .local _ .vmem, ⟨1, _⟩ => ⟨S4096x512, .f32⟩
  | .local _ .vmem, ⟨2, _⟩ => ⟨S4096x512, .f32⟩
  | .local _ .vmem, ⟨3, _⟩ => ⟨S256x512, .f32⟩
  | .local _ .vmem, ⟨4, _⟩ => ⟨S256x512, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 42], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S256x4096 : Shape := ⟨2, ![256, 4096]⟩
abbrev S4096x21504 : Shape := ⟨2, ![4096, 21504]⟩
abbrev S256x21504 : Shape := ⟨2, ![256, 21504]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x21504, .f32⟩
  | .hbm, ⟨2, _⟩ => ⟨S256x4096, .f32⟩
  | .hbm, ⟨3, _⟩ => ⟨S256x21504, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S256x21504 : Shape := ⟨2, ![256, 21504]⟩
abbrev S2048 : Shape := ⟨1, ![2048]⟩
abbrev S8x128x128 : Shape := ⟨3, ![8, 128, 128]⟩
abbrev S8x128 : Shape := ⟨2, ![8, 128]⟩
abbrev S8x8x8 : Shape := ⟨3, ![8, 8, 8]⟩
abbrev S1x8x1x8x1x8 : Shape := ⟨6, ![1, 8, 1, 8, 1, 8]⟩
abbrev S1x8x16x8x16x8 : Shape := ⟨6, ![1, 8, 16, 8, 16, 8]⟩
abbrev S128x8 : Shape := ⟨2, ![128, 8]⟩
abbrev S8x8 : Shape := ⟨2, ![8, 8]⟩
abbrev S1x8x1x8 : Shape := ⟨4, ![1, 8, 1, 8]⟩
abbrev S16x8x1x8 : Shape := ⟨4, ![16, 8, 1, 8]⟩
abbrev S1x2048 : Shape := ⟨2, ![1, 2048]⟩
abbrev S256x2048 : Shape := ⟨2, ![256, 2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 18
  | .vmem => 16
  | .smem => 0
  | _ => 0

abbrev bufTy : (tb : Table) → Fin (tcTables nBuf tb) → BufTy
  | .hbm, ⟨0, _⟩ => ⟨S256x21504, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8x8x8, .f32⟩
  | .hbm, ⟨6, _⟩ => ⟨S1x8x1x8x1x8, .f32⟩
  | .hbm, ⟨7, _⟩ => ⟨S1x8x16x8x16x8, .f32⟩
  | .hbm, ⟨8, _⟩ => ⟨S8x128x128, .f32⟩
  | .hbm, ⟨9, _⟩ => ⟨S128x8, .f32⟩
  | .hbm, ⟨10, _⟩ => ⟨S8x8, .f32⟩
  | .hbm, ⟨11, _⟩ => ⟨S1x8x1x8, .f32⟩
  | .hbm, ⟨12, _⟩ => ⟨S16x8x1x8, .f32⟩
  | .hbm, ⟨13, _⟩ => ⟨S128x8, .f32⟩
  | .hbm, ⟨14, _⟩ => ⟨S1x2048, .f32⟩
  | .hbm, ⟨15, _⟩ => ⟨S1x2048, .f32⟩
  | .hbm, ⟨16, _⟩ => ⟨S256x2048, .bf16⟩
  | .hbm, ⟨17, _⟩ => ⟨S256x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x2048, .f32⟩
  | .local _ .vmem, ⟨9, _⟩ => ⟨S1x2048, .f32⟩
  | .local _ .vmem, ⟨10, _⟩ => ⟨S8x128x128, .f32⟩
  | .local _ .vmem, ⟨11, _⟩ => ⟨S128x8, .f32⟩
  | .local _ .vmem, ⟨12, _⟩ => ⟨S128x2048, .bf16⟩
  | .local _ .vmem, ⟨13, _⟩ => ⟨S128x2048, .bf16⟩
  | .local _ .vmem, ⟨14, _⟩ => ⟨S128x2048, .f32⟩
  | .local _ .vmem, ⟨15, _⟩ => ⟨S128x2048, .f32⟩
  | _, _ => ⟨S256x21504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S256x21504 : Shape := ⟨2, ![256, 21504]⟩
abbrev S2048 : Shape := ⟨1, ![2048]⟩
abbrev S8x128x128 : Shape := ⟨3, ![8, 128, 128]⟩
abbrev S8x128 : Shape := ⟨2, ![8, 128]⟩
abbrev S32x8x21504 : Shape := ⟨3, ![32, 8, 21504]⟩
abbrev S32x8x2048 : Shape := ⟨3, ![32, 8, 2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x128x2048 : Shape := ⟨3, ![32, 128, 2048]⟩
abbrev S32x1x128x8x256 : Shape := ⟨5, ![32, 1, 128, 8, 256]⟩
abbrev S128x128 : Shape := ⟨2, ![128, 128]⟩
abbrev S1x128x128 : Shape := ⟨3, ![1, 128, 128]⟩
abbrev S8x32x1x256x128 : Shape := ⟨5, ![8, 32, 1, 256, 128]⟩
abbrev S128x8 : Shape := ⟨2, ![128, 8]⟩
abbrev S1x1x128x8x1 : Shape := ⟨5, ![1, 1, 128, 8, 1]⟩
abbrev S256x2048 : Shape := ⟨2, ![256, 2048]⟩

abbrev nBuf : Space → Nat
  | .hbm => 83
  | .vmem => 0
  | .smem => 0
  | _ => 0

abbrev bufTy : (tb : Table) → Fin (tcTables nBuf tb) → BufTy
  | .hbm, ⟨0, _⟩ => ⟨S256x21504, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S32x8x21504, .f32⟩
  | .hbm, ⟨6, _⟩ => ⟨S32x8x2048, .f32⟩
  | .hbm, ⟨7, _⟩ => ⟨S32x8x2048, .f32⟩
  | .hbm, ⟨8, _⟩ => ⟨S_, .f32⟩
  | .hbm, ⟨9, _⟩ => ⟨S32x8x2048, .f32⟩
  | .hbm, ⟨10, _⟩ => ⟨S32x8x2048, .f32⟩
  | .hbm, ⟨11, _⟩ => ⟨S32x8x2048, .f32⟩
  | .hbm, ⟨12, _⟩ => ⟨S_, .f32⟩
  | .hbm, ⟨13, _⟩ => ⟨S32x8x2048, .f32⟩
  | .hbm, ⟨14, _⟩ => ⟨S32x8x2048, .f32⟩
  | .hbm, ⟨15, _⟩ => ⟨S32x8x2048, .f32⟩
  | .hbm, ⟨16, _⟩ => ⟨S32x8x2048, .f32⟩
  | .hbm, ⟨17, _⟩ => ⟨S_, .f32⟩
  | .hbm, ⟨18, _⟩ => ⟨S32x8x2048, .f32⟩
  | .hbm, ⟨19, _⟩ => ⟨S32x8x2048, .f32⟩
  | .hbm, ⟨20, _⟩ => ⟨S32x8x2048, .f32⟩
  | .hbm, ⟨21, _⟩ => ⟨S_, .f32⟩
  | .hbm, ⟨22, _⟩ => ⟨S32x8x2048, .f32⟩
  | .hbm, ⟨23, _⟩ => ⟨S32x8x2048, .f32⟩
  | .hbm, ⟨24, _⟩ => ⟨S32x8x2048, .f32⟩
  | .hbm, ⟨25, _⟩ => ⟨S32x8x2048, .f32⟩
  | .hbm, ⟨26, _⟩ => ⟨S_, .f32⟩
  | .hbm, ⟨27, _⟩ => ⟨S32x8, .f32⟩
  | .hbm, ⟨28, _⟩ => ⟨S32x8x1, .f32⟩
  | .hbm, ⟨29, _⟩ => ⟨S_, .f32⟩
  | .hbm, ⟨30, _⟩ => ⟨S32x8x1, .f32⟩
  | .hbm, ⟨31, _⟩ => ⟨S32x8x1, .f32⟩
  | .hbm, ⟨32, _⟩ => ⟨S32x8x2048, .f32⟩
  | .hbm, ⟨33, _⟩ => ⟨S32x8x2048, .f32⟩
  | .hbm, ⟨34, _⟩ => ⟨S32x8x2048, .f32⟩
  | .hbm, ⟨35, _⟩ => ⟨S_, .f32⟩
  | .hbm, ⟨36, _⟩ => ⟨S32x8, .f32⟩
  | .hbm, ⟨37, _⟩ => ⟨S32x8x1, .f32⟩
  | .hbm, ⟨38, _⟩ => ⟨S_, .f32⟩
  | .hbm, ⟨39, _⟩ => ⟨S32x8x1, .f32⟩
  | .hbm, ⟨40, _⟩ => ⟨S32x8x1, .f32⟩
  | .hbm, ⟨41, _⟩ => ⟨S_, .f32⟩
  | .hbm, ⟨42, _⟩ => ⟨S32x8x1, .f32⟩
  | .hbm, ⟨43, _⟩ => ⟨S32x8x1, .f32⟩
  | .hbm, ⟨44, _⟩ => ⟨S32x8x1, .f32⟩
  | .hbm, ⟨45, _⟩ => ⟨S32x8x2048, .f32⟩
  | .hbm, ⟨46, _⟩ => ⟨S32x8x2048, .f32⟩
  | .hbm, ⟨47, _⟩ => ⟨S1x1x2048, .f32⟩
  | .hbm, ⟨48, _⟩ => ⟨S32x8x2048, .f32⟩
  | .hbm, ⟨49, _⟩ => ⟨S32x8x2048, .f32⟩
  | .hbm, ⟨50, _⟩ => ⟨S1x1x2048, .f32⟩
  | .hbm, ⟨51, _⟩ => ⟨S32x8x2048, .f32⟩
  | .hbm, ⟨52, _⟩ => ⟨S32x8x2048, .f32⟩
  | .hbm, ⟨53, _⟩ => ⟨S_, .i32⟩
  | .hbm, ⟨54, _⟩ => ⟨S_, .f32⟩
  | .hbm, ⟨55, _⟩ => ⟨S32x128x2048, .f32⟩
  | .hbm, ⟨56, _⟩ => ⟨S32x1x128x8x256, .f32⟩
  | .hbm, ⟨57, _⟩ => ⟨S_, .f32⟩
  | .hbm, ⟨58, _⟩ => ⟨S128x128, .f32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S1x128x128, .f32⟩
  | .hbm, ⟨69, _⟩ => ⟨S8x128x128, .f32⟩
  | .hbm, ⟨70, _⟩ => ⟨S8x128x128, .f32⟩
  | .hbm, ⟨71, _⟩ => ⟨S8x32x1x256x128, .f32⟩
  | .hbm, ⟨72, _⟩ => ⟨S32x1x128x8x256, .f32⟩
  | .hbm, ⟨73, _⟩ => ⟨S128x8, .f32⟩
  | .hbm, ⟨74, _⟩ => ⟨S1x1x128x8x1, .f32⟩
  | .hbm, ⟨75, _⟩ => ⟨S32x1x128x8x256, .f32⟩
  | .hbm, ⟨76, _⟩ => ⟨S32x1x128x8x256, .f32⟩
  | .hbm, ⟨77, _⟩ => ⟨S32x128x2048, .f32⟩
  | .hbm, ⟨78, _⟩ => ⟨S32x8x2048, .f32⟩
  | .hbm, ⟨79, _⟩ => ⟨S32x8x2048, .f32⟩
  | .hbm, ⟨80, _⟩ => ⟨S256x2048, .f32⟩
  | .hbm, ⟨81, _⟩ => ⟨S256x2048, .bf16⟩
  | .hbm, ⟨82, _⟩ => ⟨S256x2048, .f32⟩
  | _, _ => ⟨S256x21504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_call0_v0 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_cst : Ref sig .tc := ⟨.hbm, 65, rfl⟩
abbrev main_call1_v5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Proof.References.lean ====
/- The references run to the end and leave their arguments alone. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run

@[expose] public section

noncomputable section

namespace Cert.Proof

open Idealize.ShloMosaic Idealize.SL.Sem

/-- Reference 1 terminates, keeps its arguments and holds no semaphore. -/
theorem frame_reference1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Reference 2 terminates, keeps its arguments and holds no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Reference 3 terminates, keeps its arguments and holds no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Reference 4 terminates, keeps its arguments and holds no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Reference 5 terminates, keeps its arguments and holds no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Reference 6 terminates, keeps its arguments and holds no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Reference 7 terminates, keeps its arguments and holds no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Reference 8 terminates, keeps its arguments and holds no semaphore. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Reference 9 terminates, keeps its arguments and holds no semaphore. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.Proof

end
-- ==== Proof.InProj.lean ====
/- The in-projection: what the tiled product leaves in its result array is the whole product. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Proof.InProj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The whole product: the rows, widened, times the weight. -/
abbrev REF (X : FVec Ideal S8192x4096 .bf16) (W : FVec Ideal S4096x21504 .f32) : FVec Ideal S8192x21504 .f32 :=
  Host.dotGeneral Cert.Reference2Ideal.dot_S8192x4096_S4096x21504_S8192x21504_1_0_0_1_n_n none
    (extf .f32 X Cert.Reference2Ideal.Gen.bitsLt_bf16_f32) W

/-- Where each window's block sits at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at an index of its block is the whole product there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.InProj

end
-- ==== Proof.InProjSample.lean ====
/- The in-projection of the sample batch: what the tiled product leaves in its result array is the whole product. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

namespace Cert.Proof.InProjSample

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The whole product: the rows, widened, times the weight. -/
abbrev REF (X : FVec Ideal S256x4096 .bf16) (W : FVec Ideal S4096x21504 .f32) : FVec Ideal S256x21504 .f32 :=
  Host.dotGeneral Cert.Reference8Ideal.dot_S256x4096_S4096x21504_S256x21504_1_0_0_1_n_n none
    (extf .f32 X Cert.Reference8Ideal.Gen.bitsLt_bf16_f32) W

/-- Where each window's block sits at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at an index of its block is the whole product there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.InProjSample

end
-- ==== Proof.Merge.lean ====
/- The merge: the tiled gated sum of two products is the whole one. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Proof.Merge

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-- The gated sum of the two whole products, as the reference composes it. -/
abbrev REF (a : FVec Ideal S8192x1024 .bf16) (s : FVec Ideal S8192x2048 .bf16) (p : FVec Ideal S8192x21504 .f32) (u : FVec Ideal S1024x4096 .f32) (v : FVec Ideal S2048x4096 .f32) : FVec Ideal S8192x4096 .bf16 := val_main_v21 (F := Ideal) a s p u v

/-- Where each window's block sits at a grid point. -/
theorem idx : ∀ t : Fin cfg0.N, win0_0.index t = ![(grid0.coords t 0).val, 0]
    ∧ win0_1.index t = ![(grid0.coords t 0).val, 0]
    ∧ win0_2.index t = ![(grid0.coords t 0).val, (grid0.coords t 1).val + 26]
    ∧ win0_3.index t = ![(grid0.coords t 0).val, (grid0.coords t 1).val + 34]
    ∧ win0_4.index t = ![0, (grid0.coords t 1).val]
    ∧ win0_5.index t = ![0, (grid0.coords t 1).val]
    ∧ win0_6.index t = ![(grid0.coords t 0).val, (grid0.coords t 1).val] :=
  (by decide +kernel : ∀ t : Fin grid0.N, _)

/-- What a grid point stores at an index of its block is the whole gated sum there. -/
theorem point (c : Dev nD) (t : Fin cfg0.N) (y) : k0_pay1 (iblk m c 0 t) (iblk m c 4 t) (iblk m c 1 t) (iblk m c 5 t) (iblk m c 2 t) (iblk m c 3 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, REF, val_main_v0, val_main_v1, val_main_v2, val_main_v3, val_main_cst, val_main_v4, val_main_v5, val_main_cst_0, val_main_v6, val_main_v7, val_main_v8, val_main_v9, val_main_v10, val_main_v11, val_main_v12, val_main_cst_1, val_main_v13, val_main_v14, val_main_cst_2, val_main_v15, val_main_v16, val_main_v17, val_main_v18, val_main_v19, val_main_v20, val_main_v21]
  refine congrArg₂ (· + ·) (congrArg₂ (· * ·) ?_ ?_) (congrArg₂ (· * ·) ?_ ?_)
  all_goals first | (blk_point [iblk, V, idx t]; done) | skip
  all_goals (rw [Ideal.logistic]; blk_point [iblk, V, idx t])

/-- The result array after the run is the whole gated sum. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Proof.Merge

end
-- ==== Proof.OutProj.lean ====
/- The out-projection: the tiled gated residual update is the whole one. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Proof.OutProj

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

/-- The input plus the gate times the whole product, as the reference composes it. -/
abbrev REF (x : FVec Ideal S8192x4096 .bf16) (u : FVec Ideal S4096x4096 .f32) (r : FVec Ideal S8192x4096 .f32) (g : FVec Ideal S4x1x24576 .f32) : FVec Ideal S8192x4096 .f32 := val_main_v10 (F := Ideal) x u r g

/-- Where each window's block sits at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val / 2, 0, (grid0.coords t 1).val + 16]
    ∧ win0_4.index t = ![(grid0.coords t 0).val, (grid0.coords t 1).val] :=
  (by decide +kernel : ∀ t : Fin grid0.N, _)

/-- What a grid point stores at an index of its block is the whole residual update there. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, val_main_v0, val_main_v1, val_main_v2, val_main_v3, val_main_v4, val_main_v5, val_main_v6, val_main_v7, val_main_v8, val_main_v9, val_main_v10]
  blk_point [iblk, V, idx t]

/-- The result array after the run is the whole residual update. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Proof.OutProj

end
-- ==== Proof.PeerQuery.lean ====
/- The expert queries: the tiled product is the whole product. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Proof.PeerQuery

open Idealize.ShloMosaic Idealize.ShloMosaic.TcCoe Idealize.SL.Sem
open Idealize.ShloMosaic.Pipeline (Dat)
open Cert.Kernel5Ideal Cert.Kernel5Ideal.Gen
open Cert.Reference5Ideal.Read

variable (m : (ℓ : Loc nD τ sig) → Buf (Elt Ideal) ℓ)

/-- The whole product, as the reference composes it. -/
abbrev REF (x : FVec Ideal S8192x4096 .bf16) (u : FVec Ideal S4096x2048 .f32) : FVec Ideal S8192x2048 .f32 := val_main_v1 (F := Ideal) x u

/-- Where each window's block sits at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at an index of its block is the whole product there. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, val_main_v0, val_main_v1]
  blk_point [iblk, V, idx t]

/-- The result array after the run is the whole product. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.PeerQuery

end
-- ==== Proof.Final.lean ====
/- The last residual and norm over the prompt rows: the row blocks are the whole array. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.Proof.Final

open Idealize.ShloMosaic Idealize.ShloMosaic.TcCoe Idealize.SL.Sem
open Idealize.ShloMosaic.Pipeline (Dat)
open Cert.Kernel6Ideal Cert.Kernel6Ideal.Gen
open Cert.Reference6Ideal.Read

variable (m : (ℓ : Loc nD τ sig) → Buf (Elt Ideal) ℓ)

/-- The gated residual at a row and a column; rows `2048·b ⋯` of the input are batch row `b`, whose gate is the sixth slice of its modulation. -/
def res (x y : FVec Ideal S8192x4096 .f32) (g : FVec Ideal S4x1x24576 .f32) (r : Fin 8192) (k : Fin 4096) : EReal :=
  x (ix2 r k) + g (ix3 ⟨r.val / 2048, by omega⟩ 0 ⟨k.val + 20480, by omega⟩) * y (ix2 r k)

/-- The gated residual, divided by the root of its row's mean square and scaled. -/
def REF (x y : FVec Ideal S8192x4096 .f32) (g : FVec Ideal S4x1x24576 .f32) (s : FVec Ideal S4096 .f32) : FVec Ideal S8192x4096 .f32 := fun i =>
  res x y g (i 0) (i 1) * Ideal.rsqrt (Ideal.div (∑ k : Fin 4096, res x y g (i 0) k * res x y g (i 0) k) (Ideal.ofBits .f32 0x45800000#32)
    + Ideal.ofBits .f32 0x358637BD#32) * s (ix1 (i 1))

/-- Two indices of a rank-two array with equal coordinates are equal. -/
theorem ext2 {a b : Nat} {i j : (⟨2, ![a, b]⟩ : Shape).Idx} (h0 : (i 0).val = (j 0).val) (h1 : (i 1).val = (j 1).val) : i = j := by
  funext d; match d with
  | ⟨0, _⟩ => exact Fin.ext h0
  | ⟨1, _⟩ => exact Fin.ext h1

/-- Two indices of a rank-three array with equal coordinates are equal. -/
theorem ext3 {a b c : Nat} {i j : (⟨3, ![a, b, c]⟩ : Shape).Idx} (h0 : (i 0).val = (j 0).val) (h1 : (i 1).val = (j 1).val)
    (h2 : (i 2).val = (j 2).val) : i = j := by
  funext d; match d with
  | ⟨0, _⟩ => exact Fin.ext h0
  | ⟨1, _⟩ => exact Fin.ext h1
  | ⟨2, _⟩ => exact Fin.ext h2

/-- The reference's residual stage, at batch row `b`, position `p` and column `k`. -/
theorem ref_res (x y : FVec Ideal S8192x4096 .f32) (g : FVec Ideal S4x1x24576 .f32) (i : Cert.Reference6Ideal.S4x2048x4096.Idx)
    (r : Fin 8192) (k : Fin 4096) (hr : (i 0).val * 2048 + (i 1).val = r.val) (hk : (i 2).val = k.val) :
    val_main_v7 (F := Ideal) x y g i = res x y g r k := by
  have h0 : (i 0).val < 4 := (i 0).isLt
  have h1 : (i 1).val < 2048 := (i 1).isLt
  have h2 : (i 2).val < 4096 := (i 2).isLt
  have hr' := r.isLt
  have e3 : idx_main_v3 i = ix2 r k := ext2
    (show (((i 0).val * 2048 + (i 1).val) * 4096 + (i 2).val) / 4096 = r.val by omega)
    (show (((i 0).val * 2048 + (i 1).val) * 4096 + (i 2).val) % 4096 = k.val by omega)
  have e4 : idx_main_v4 i = ix2 r k := e3
  have e5 : idx_main_v0 (idx_main_v1 (idx_main_v2 (idx_main_v5 i))) = ix3 ⟨r.val / 2048, by omega⟩ 0 ⟨k.val + 20480, by omega⟩ := by
    refine ext3 ?_ rfl ?_
    · show ((((((i 0).val * 1 + 0) * 4096 + (i 2).val) / 4096 * 1 + 0) * 6 + (5 + 0)) * 4096 + (((i 0).val * 1 + 0) * 4096 + (i 2).val) % 4096) / 24576 = r.val / 2048
      omega
    · show ((((((i 0).val * 1 + 0) * 4096 + (i 2).val) / 4096 * 1 + 0) * 6 + (5 + 0)) * 4096 + (((i 0).val * 1 + 0) * 4096 + (i 2).val) % 4096) % 24576 = k.val + 20480
      omega
  rw [val_main_v7_apply, val_main_v6_apply, val_main_v3_apply, val_main_v4_apply, val_main_v5_apply, val_main_v2_apply,
    val_main_v1_apply, val_main_v0_apply, e3, e4, e5]
  rfl

/-- The reference's result is the gated residual, normed and scaled. -/
theorem ref_eq (x y : FVec Ideal S8192x4096 .f32) (g : FVec Ideal S4x1x24576 .f32) (s : FVec Ideal S4096 .f32) :
    val_main_v21 (F := Ideal) x y g s = REF x y g s := by
  funext i
  have h0 : (i 0).val < 8192 := (i 0).isLt
  have h1 : (i 1).val < 4096 := (i 1).isLt
  have r1 : val_main_v7 (F := Ideal) x y g (idx_main_v21 i) = res x y g (i 0) (i 1) := by
    refine ref_res x y g _ (i 0) (i 1) ?_ ?_
    · show ((i 0).val * 4096 + (i 1).val) / 8388608 * 2048 + ((i 0).val * 4096 + (i 1).val) / 4096 % 2048 = (i 0).val
      omega
    · show ((i 0).val * 4096 + (i 1).val) % 4096 = (i 1).val
      omega
  have r2 : ∀ k, val_main_v8 (F := Ideal) x y g (idx_main_v9 (idx_main_v10 (idx_main_v16 (idx_main_v21 i))) k)
      = res x y g (i 0) k * res x y g (i 0) k := fun k => by
    rw [val_main_v8_apply, ref_res x y g _ (i 0) k]
    · rfl
    · show ((i 0).val * 4096 + (i 1).val) / 8388608 * 2048 + ((i 0).val * 4096 + (i 1).val) / 4096 % 2048 = (i 0).val
      omega
    · rfl
  have r3 : idx_main_v18 (idx_main_v19 (idx_main_v21 i)) = ix1 (i 1) := by
    funext d; match d with
    | ⟨0, _⟩ => exact Fin.ext (show ((i 0).val * 4096 + (i 1).val) % 4096 = (i 1).val by omega)
  rw [val_main_v21_apply, val_main_v20_apply, val_main_v17_apply, val_main_v16_apply, val_main_v15_apply, val_main_v14_apply,
    val_main_v12_apply, val_main_v10_apply, val_main_v9_apply, val_main_v19_apply, val_main_v18_apply, r1, r3]
  simp only [r2]
  rw [show val_main_cst (F := Ideal) (Shape.Idx.first Cert.Reference6Ideal.Gen.h_S_) = 0 from Ideal.ofBits_zero_f32, zero_add]
  rfl

/-- Where each window's block sits at a grid point. -/
theorem idx : ∀ t : Fin cfg0.N, win0_0.index t = ![(grid0.coords t 0).val, 0]
    ∧ win0_1.index t = ![(grid0.coords t 0).val, 0]
    ∧ win0_2.index t = ![(grid0.coords t 0).val / 8, 0, 5]
    ∧ win0_3.index t = ![0, 0]
    ∧ win0_4.index t = ![(grid0.coords t 0).val, 0] :=
  (by decide +kernel : ∀ t : Fin grid0.N, _)

set_option maxHeartbeats 1600000 in
/-- What a grid point stores at an index of its block is the whole normed array there. -/
theorem point (c : Dev nD) (t : Fin cfg0.N) (y) : k0_pay1 (iblk m c 0 t) (iblk m c 2 t) (iblk m c 1 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, res]
  blk_point [iblk, V, idx t]

/-- The result array after the run is the whole normed array. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Proof.Final

end
-- ==== Proof.FinalSample.lean ====
/- The last residual and norm over the sample rows: the one block is the whole array. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.Proof.FinalSample

open Idealize.ShloMosaic Idealize.ShloMosaic.TcCoe Idealize.SL.Sem
open Idealize.ShloMosaic.Pipeline (Dat)
open Cert.Kernel7Ideal Cert.Kernel7Ideal.Gen
open Cert.Reference7Ideal.Read

variable (m : (ℓ : Loc nD τ sig) → Buf (Elt Ideal) ℓ)

/-- The gated residual, normed and scaled, as the reference composes it. -/
abbrev REF (x : FVec Ideal S256x4096 .f32) (y : FVec Ideal S256x4096 .f32) (g : FVec Ideal S256x24576 .f32) (s : FVec Ideal S4096 .f32) : FVec Ideal S256x4096 .f32 := val_main_v17 (F := Ideal) x y g s

/-- Where each window's block sits at a grid point. -/
theorem idx : ∀ t : Fin cfg0.N, win0_0.index t = ![0, 0]
    ∧ win0_1.index t = ![0, 0]
    ∧ win0_2.index t = ![0, 5]
    ∧ win0_3.index t = ![0, 0]
    ∧ win0_4.index t = ![0, 0] :=
  (by decide +kernel : ∀ t : Fin grid0.N, _)

/-- What a grid point stores at an index of its block is the whole normed array there. -/
theorem point (c : Dev nD) (t : Fin cfg0.N) (y) : k0_pay1 (iblk m c 0 t) (iblk m c 2 t) (iblk m c 1 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17]
  blk_point [iblk, V, idx t]

/-- The result array after the run is the whole normed array. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Proof.FinalSample

end
-- ==== Proof.Claims.lean ====
/- The value claims of the projections, the merge and the last norm, each from its module's result array. -/
module

public import proofs.«01_k».proof.Defs
public import proofs.«01_k».proof.Proof.InProj
public import proofs.«01_k».proof.Proof.Gen.Reference2Ideal.Run
public import proofs.«01_k».proof.Proof.InProjSample
public import proofs.«01_k».proof.Proof.Gen.Reference8Ideal.Run
public import proofs.«01_k».proof.Proof.Merge
public import proofs.«01_k».proof.Proof.Gen.Reference3Ideal.Run
public import proofs.«01_k».proof.Proof.OutProj
public import proofs.«01_k».proof.Proof.Gen.Reference4Ideal.Run
public import proofs.«01_k».proof.Proof.PeerQuery
public import proofs.«01_k».proof.Proof.Gen.Reference5Ideal.Run
public import proofs.«01_k».proof.Proof.Final
public import proofs.«01_k».proof.Proof.Gen.Reference6Ideal.Run
public import proofs.«01_k».proof.Proof.FinalSample
public import proofs.«01_k».proof.Proof.Gen.Reference7Ideal.Run

@[expose] public section

noncomputable section

namespace Cert.Proof

open Idealize.ShloMosaic Idealize.SL.Sem

/-- The in-projection equals its reference. -/
theorem algebraic2 : Cert.algebraic_Kernel2Ideal_Reference2Ideal := by
  pair_intro
  · run_from Cert.Kernel2Ideal.Gen.run_main m g
  · hlo_run
    exact (InProj.final m c).symm

/-- The merge equals its reference. -/
theorem algebraic3 : Cert.algebraic_Kernel3Ideal_Reference3Ideal := by
  pair_intro
  · run_from Cert.Kernel3Ideal.Gen.run_main m g
  · hlo_run
    rw [Merge.final m c]
    exact Cert.Reference3Ideal.Read.val_main_v21_eq (F := Ideal) ..

/-- The out-projection equals its reference. -/
theorem algebraic4 : Cert.algebraic_Kernel4Ideal_Reference4Ideal := by
  pair_intro
  · run_from Cert.Kernel4Ideal.Gen.run_main m g
  · hlo_run
    rw [OutProj.final m c]
    exact Cert.Reference4Ideal.Read.val_main_v10_eq (F := Ideal) ..

/-- The expert queries equal their reference. -/
theorem algebraic5 : Cert.algebraic_Kernel5Ideal_Reference5Ideal := by
  pair_intro
  · run_from Cert.Kernel5Ideal.Gen.run_main m g
  · hlo_run
    rw [PeerQuery.final m c]
    exact Cert.Reference5Ideal.Read.val_main_v1_eq (F := Ideal) ..

/-- The last norm over the prompt equals its reference. -/
theorem algebraic6 : Cert.algebraic_Kernel6Ideal_Reference6Ideal := by
  pair_intro
  · run_from Cert.Kernel6Ideal.Gen.run_main m g
  · hlo_run
    rw [Final.final m c, ← Final.ref_eq]
    exact Cert.Reference6Ideal.Read.val_main_v21_eq (F := Ideal) ..

/-- The last norm over the sample equals its reference. -/
theorem algebraic7 : Cert.algebraic_Kernel7Ideal_Reference7Ideal := by
  pair_intro
  · run_from Cert.Kernel7Ideal.Gen.run_main m g
  · hlo_run
    rw [FinalSample.final m c]
    exact Cert.Reference7Ideal.Read.val_main_v17_eq (F := Ideal) ..

/-- The in-projection of the sample batch equals its reference. -/
theorem algebraic8 : Cert.algebraic_Kernel8Ideal_Reference8Ideal := by
  pair_intro
  · run_from Cert.Kernel8Ideal.Gen.run_main m g
  · hlo_run
    exact (InProjSample.final m c).symm

end Cert.Proof

end
-- ==== Proof.AttnMath.lean ====
/-
  The plain arithmetic of one attention row over the extended reals: the greatest score, the mass of the
  exponentials, the weighted mean of the values and the log of the summed exponentials; and that they do not
  change when the keys are listed another way, as long as what is added or left out has score minus infinity.
-/
module

public import Idealize.ShloMosaic.PureOps.Ideal
public import Idealize.ShloMosaic.Lib.IdealHost

@[expose] public section

noncomputable section

namespace Cert.Proof.Attn

open Idealize.ShloMosaic

variable {m n : ℕ}

/-- The greatest score of a row. -/
def top (s : Fin n → EReal) : EReal := Finset.univ.fold max ⊥ s

/-- The softmax denominator of a row. -/
def mass (s : Fin n → EReal) : EReal := ∑ c, Ideal.exp (s c - top s)

/-- The softmax of a row applied to one column of the values. -/
def mean (s w : Fin n → EReal) : EReal := ∑ c, Ideal.div (Ideal.exp (s c - top s)) (mass s) * w c

/-- The log of the summed exponentials of a row. -/
def lse (s : Fin n → EReal) : EReal := top s + Ideal.log (mass s)

/-- The greatest score is the supremum of the scores. -/
theorem top_eq (s : Fin n → EReal) : top s = Finset.univ.sup s := rfl

/-- A score of minus infinity has weight zero. -/
theorem exp_bot_sub (x : EReal) : Ideal.exp (⊥ - x) = 0 := by
  rw [sub_eq_add_neg, EReal.bot_add]; rfl

/-- Zero over anything but zero is zero. -/
theorem zero_div_of {d : EReal} (hd : d ≠ 0) : Ideal.div 0 d = 0 := by
  simp [Ideal.div, hd]

/-- An exponential is not negative. -/
theorem exp_nonneg (x : EReal) : 0 ≤ Ideal.exp x := by
  induction x with
  | bot => exact le_refl _
  | top => exact le_top
  | coe r => exact EReal.coe_nonneg.2 (Real.exp_pos r).le

/-- `e` lists, without repetition, every key of `s` whose score is not minus infinity: for the places in `J` the score
    of `e j` is `t j`, a key that is not listed has score minus infinity, and so has a place outside `J`. -/
structure Lists (e : Fin m → Fin n) (J : Fin m → Prop) (s : Fin n → EReal) (t : Fin m → EReal) : Prop where
  inj : ∀ i j, J i → J j → e i = e j → i = j
  on : ∀ j, J j → s (e j) = t j
  off : ∀ c, (∀ j, J j → e j ≠ c) → s c = ⊥
  out : ∀ j, ¬ J j → t j = ⊥

/-- A sum over the keys is the sum over the listing when what is not listed counts zero. -/
theorem sum_listed (e : Fin m → Fin n) (J : Fin m → Prop) (f : Fin n → EReal) (g : Fin m → EReal)
    (inj : ∀ i j, J i → J j → e i = e j → i = j) (on : ∀ j, J j → f (e j) = g j)
    (off : ∀ c, (∀ j, J j → e j ≠ c) → f c = 0) (out : ∀ j, ¬ J j → g j = 0) :
    ∑ c, f c = ∑ j, g j := by
  classical
  have h1 : ∑ c ∈ (Finset.univ.filter J).image e, f c = ∑ c, f c := by
    refine Finset.sum_subset (Finset.subset_univ _) fun c _ hc => off c fun j hj he => hc ?_
    exact Finset.mem_image.2 ⟨j, by simp [hj], he⟩
  have h2 : ∑ j ∈ Finset.univ.filter J, g j = ∑ j, g j := by
    refine Finset.sum_subset (Finset.subset_univ _) fun j _ hj => out j fun h => hj (by simp [h])
  rw [← h1, ← h2, Finset.sum_image]
  · exact Finset.sum_congr rfl fun j hj => on j (by simpa using hj)
  · intro i hi j hj he
    exact inj i j (by simpa using hi) (by simpa using hj) he

namespace Lists

variable {e : Fin m → Fin n} {J : Fin m → Prop} {s : Fin n → EReal} {t : Fin m → EReal}

/-- The greatest score does not depend on the listing. -/
theorem top_eq (h : Lists e J s t) : top s = top t := by
  rw [Attn.top_eq, Attn.top_eq]
  apply le_antisymm
  · refine Finset.sup_le fun c _ => ?_
    by_cases hc : ∃ j, J j ∧ e j = c
    · obtain ⟨j, hj, rfl⟩ := hc
      rw [h.on j hj]
      exact Finset.le_sup (f := t) (Finset.mem_univ j)
    · rw [h.off c fun j hj he => hc ⟨j, hj, he⟩]
      exact bot_le
  · refine Finset.sup_le fun j _ => ?_
    by_cases hj : J j
    · rw [← h.on j hj]
      exact Finset.le_sup (f := s) (Finset.mem_univ (e j))
    · rw [h.out j hj]
      exact bot_le

/-- Nor does the denominator. -/
theorem mass_eq (h : Lists e J s t) : mass s = mass t := by
  unfold mass
  rw [h.top_eq]
  refine sum_listed e J _ _ h.inj (fun j hj => by rw [h.on j hj]) (fun c hc => ?_) fun j hj => ?_
  · rw [h.off c hc, exp_bot_sub]
  · rw [h.out j hj, exp_bot_sub]

/-- Nor does the log of the summed exponentials. -/
theorem lse_eq (h : Lists e J s t) : lse s = lse t := by
  unfold lse
  rw [h.top_eq, h.mass_eq]

/-- Nor does the weighted mean, when the values are listed alike and the denominator is not zero. -/
theorem mean_eq (h : Lists e J s t) {w : Fin n → EReal} {u : Fin m → EReal} (hw : ∀ j, J j → w (e j) = u j)
    (hd : mass t ≠ 0) : mean s w = mean t u := by
  unfold mean
  rw [h.top_eq, h.mass_eq]
  refine sum_listed e J _ _ h.inj (fun j hj => by rw [h.on j hj, hw j hj]) (fun c hc => ?_) fun j hj => ?_
  · rw [h.off c hc, exp_bot_sub, zero_div_of hd, zero_mul]
  · rw [h.out j hj, exp_bot_sub, zero_div_of hd, zero_mul]

end Lists

/-- The denominator is not zero when some score is real and none is plus infinity. -/
theorem mass_ne_zero (t : Fin m → EReal) (ht : ∀ j, t j ≠ ⊤) {j0 : Fin m} (h0 : t j0 ≠ ⊥) : mass t ≠ 0 := by
  have hne : (Finset.univ : Finset (Fin m)).Nonempty := ⟨j0, Finset.mem_univ j0⟩
  obtain ⟨j1, -, h1⟩ := Finset.exists_mem_eq_sup _ hne t
  have htop : top t ≠ ⊤ := by rw [top_eq, h1]; exact ht j1
  have hbot : top t ≠ ⊥ := fun hb => h0 (le_bot_iff.1 (hb ▸ (top_eq t) ▸ Finset.le_sup (f := t) (Finset.mem_univ j0)))
  have hpos : 0 < Ideal.exp (t j0 - top t) := by
    obtain ⟨a, ha⟩ : ∃ a : ℝ, t j0 = a := ⟨_, (EReal.coe_toReal (ht j0) h0).symm⟩
    obtain ⟨b, hb⟩ : ∃ b : ℝ, top t = b := ⟨_, (EReal.coe_toReal htop hbot).symm⟩
    rw [ha, hb, ← EReal.coe_sub]
    exact EReal.coe_pos.2 (Real.exp_pos _)
  refine (lt_of_lt_of_le hpos ?_).ne'
  exact Finset.single_le_sum (f := fun c => Ideal.exp (t c - top t)) (fun c _ => exp_nonneg _) (Finset.mem_univ j0)

/-- Three results weighed by the softmax of their log-sums: how the dilation groups are combined. -/
def blend (l o : Fin 3 → EReal) : EReal := mean l o

/-- The same with the greatest, the sum and the weighted sum written out for three. -/
theorem blend_eq (l o : Fin 3 → EReal) :
    blend l o =
      (Ideal.div (Ideal.exp (l 0 - max (max (l 0) (l 1)) (l 2)))
          (Ideal.exp (l 0 - max (max (l 0) (l 1)) (l 2)) + Ideal.exp (l 1 - max (max (l 0) (l 1)) (l 2))
            + Ideal.exp (l 2 - max (max (l 0) (l 1)) (l 2))) * o 0
        + Ideal.div (Ideal.exp (l 1 - max (max (l 0) (l 1)) (l 2)))
          (Ideal.exp (l 0 - max (max (l 0) (l 1)) (l 2)) + Ideal.exp (l 1 - max (max (l 0) (l 1)) (l 2))
            + Ideal.exp (l 2 - max (max (l 0) (l 1)) (l 2))) * o 1)
        + Ideal.div (Ideal.exp (l 2 - max (max (l 0) (l 1)) (l 2)))
          (Ideal.exp (l 0 - max (max (l 0) (l 1)) (l 2)) + Ideal.exp (l 1 - max (max (l 0) (l 1)) (l 2))
            + Ideal.exp (l 2 - max (max (l 0) (l 1)) (l 2))) * o 2 := by
  have ht : top l = max (max (l 0) (l 1)) (l 2) := by
    rw [top_eq]
    apply le_antisymm
    · refine Finset.sup_le fun c _ => ?_
      fin_cases c <;> simp
    · exact max_le (max_le (Finset.le_sup (f := l) (Finset.mem_univ 0)) (Finset.le_sup (f := l) (Finset.mem_univ 1)))
        (Finset.le_sup (f := l) (Finset.mem_univ 2))
  unfold blend mean mass
  rw [ht, Fin.sum_univ_three, Fin.sum_univ_three]

end Cert.Proof.Attn

end
-- ==== Proof.SpatialGateMath.lean ====
/- The plain arithmetic of the spatial gate of the sample batch, over the extended reals: 32 samples of 8 rows each. -/
module

public import proofs.«01_k».proof.Proof.AttnMath
public import Idealize.ShloMosaic.PureOps.Ideal.Laws

@[expose] public section

noncomputable section

namespace Cert.Proof.SpatialGate

open Idealize.ShloMosaic

/-- The exact gelu. -/
def gelu (x : EReal) : EReal :=
  x * (FloatOps.erf (F := Ideal) (φ := .f32) (x * Ideal.ofBits .f32 0x3F3504F3#32) + 1) * Ideal.ofBits .f32 0x3F000000#32

/-- The mean of a row of 2048 channels. -/
def avg (f : Fin 2048 → EReal) : EReal := Ideal.div (∑ j, f j) (Ideal.ofBits .f32 0x45000000#32)

/-- The layer norm of a row at a channel, with the gain `g` and the shift `b` there. -/
def norm (f : Fin 2048 → EReal) (g b : EReal) (j : Fin 2048) : EReal :=
  (f j - avg f) * Ideal.rsqrt (avg (fun k => (f k - avg f) * (f k - avg f)) + Ideal.ofBits .f32 0x358637BD#32) * g + b

/-- A channel's group: there are eight groups of 256 channels. -/
def grp (j : Fin 2048) : Fin 8 := ⟨j.val / 256, by omega⟩

variable (X : Fin 256 → Fin 21504 → EReal) (gain shift : Fin 2048 → EReal) (w : Fin 8 → Fin 128 → Fin 128 → EReal)
  (bias : Fin 8 → Fin 128 → EReal)

/-- The gate's own channels: the gelu of the projection's columns from 9216. -/
def chan (R : Fin 256) (j : Fin 2048) : EReal := gelu (X R ⟨9216 + j.val, by omega⟩)

/-- The channels that are mixed: the normed gelu of the projection's columns from 11264. -/
def normed (R : Fin 256) (j : Fin 2048) : EReal :=
  norm (fun k => gelu (X R ⟨11264 + k.val, by omega⟩)) (gain j) (shift j) j

/-- The gate at row `t` of sample `b`: the channel times what the rows of the sample up to it give, mixed with the
    group's weights, plus the group's bias. -/
def gate (b : Fin 32) (t : Fin 8) (j : Fin 2048) : EReal :=
  chan X ⟨8 * b.val + t.val, by omega⟩ j
    * (∑ s : Fin 8, (if s.val ≤ t.val then w (grp j) ⟨t.val, by omega⟩ ⟨s.val, by omega⟩ else 0)
        * normed X gain shift ⟨8 * b.val + s.val, by omega⟩ j + bias (grp j) ⟨t.val, by omega⟩)

/-- The error function is odd. -/
theorem erf_neg (x : EReal) : Ideal.erf (-x) = -Ideal.erf x := by
  induction x with
  | bot => exact (neg_neg (1 : EReal)).symm
  | top => rfl
  | coe r =>
    show (((2 / Real.sqrt Real.pi * ∫ t in (0 : ℝ)..(-r), Real.exp (-(t ^ 2)) : ℝ)) : EReal)
      = -(((2 / Real.sqrt Real.pi * ∫ t in (0 : ℝ)..r, Real.exp (-(t ^ 2)) : ℝ)) : EReal)
    have h := intervalIntegral.integral_comp_neg (a := 0) (b := r) (fun t : ℝ => Real.exp (-(t ^ 2)))
    simp only [neg_sq, neg_zero] at h
    rw [← EReal.coe_neg, EReal.coe_eq_coe_iff, ← mul_neg, h, ← intervalIntegral.integral_symm]

/-- The gelu spelt with the complementary error function. -/
theorem gelu_eq (x : EReal) : Ideal.ofBits .f32 0x3F000000#32 * x
    * Ideal.erfc (-x * Ideal.ofBits .f32 0x3F3504F3#32) = gelu x := by
  unfold gelu Ideal.erfc
  rw [EReal.neg_mul, erf_neg, sub_eq_add_neg, neg_neg, mul_assoc, mul_comm, add_comm]
  rfl

end Cert.Proof.SpatialGate

end
-- ==== Proof.SpatialGateKernel.lean ====
/- One grid point of the spatial gate of the sample batch: what the kernel leaves in its two output blocks, read at an index. -/
module

public import proofs.«01_k».proof.Proof.Gen.Kernel9Ideal.Value
public import proofs.«01_k».proof.Proof.SpatialGateMath
public import Idealize.ShloMosaic.Lib.Pipeline.ValueKit
public import Idealize.ShloMosaic.Lib.Claim

@[expose] public section

set_option maxRecDepth 16384

noncomputable section

namespace Cert.Proof.SpatialGate

open Idealize.ShloMosaic Idealize.ShloMosaic.TcCoe Idealize.SL.Sem
open Idealize.ShloMosaic.Pipeline (Dat)
open Cert.Kernel9Ideal Cert.Kernel9Ideal.Gen

variable (x0 x1 : Vec Ideal S128x1024 .f32) (g b : Vec Ideal S1x2048 .f32) (r : Fin 128) (j : Fin 2048)

/-- Two blocks of columns, side by side. -/
def wide : FVec Ideal S128x2048 .f32 := concatenate S128x2048 1 [⟨S128x1024, x0⟩, ⟨S128x1024, x1⟩] concatenates_S128x1024_S128x1024_S128x2048_d1

/-- The gelu of the first half of the channels, at an index. -/
theorem pay3_apply : k0_pay3 (F := Ideal) x0 x1 (ix2 r j) = gelu (wide x0 x1 (ix2 r j)) := by
  show k0_pay3 (F := Ideal) x0 x1 (ix2 r j) = gelu (concatenate S128x2048 1 _ _ (ix2 r j))
  rw [k0_pay3]
  generalize concatenate S128x2048 1 _ _ = A
  pointwise []
  rfl

/-- The normed gelu of the other half, at an index. -/
theorem pay5_apply : k0_pay5 (F := Ideal) (k0_pay4 x0 x1) g b (ix2 r j) =
    norm (fun k => gelu (wide x0 x1 (ix2 r k))) (g (ix2 0 j)) (b (ix2 0 j)) j := by
  have h : (fun k => gelu (wide x0 x1 (ix2 r k))) = fun k => gelu (concatenate S128x2048 1 [⟨S128x1024, x0⟩, ⟨S128x1024, x1⟩] concatenates_S128x1024_S128x1024_S128x2048_d1 (ix2 r k)) := rfl
  rw [h, k0_pay5, k0_pay4]
  generalize concatenate S128x2048 1 _ _ = A
  pointwise []
  rfl

/-- The keep mask of the kernel: the columns of a row's own group of eight, up to the row itself. -/
def mask : IVec S128x128 1 := k0_pay10 (iota .tc S128x128 32 [1] iota_S128x128_d1_w32) k0_pay6 k0_pay7 8#32 k0_pay8 k0_pay9

/-- The kernel's integer quotient by eight, rounded down as it is spelt there. -/
def eighth (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- On the indices of a block it is the quotient. -/
theorem eighth_eq : ∀ r : Fin 128, eighth (BitVec.ofNat 32 r.val) = BitVec.ofNat 32 (r.val / 8) := by decide +kernel

/-- The mask is one exactly at the columns of the row's own group of eight, up to the row. -/
theorem mask_apply (r s : Fin 128) : mask (ix2 r s) = if s.val ≤ r.val ∧ r.val / 8 = s.val / 8 then 1#1 else 0#1 := by
  have h : mask (ix2 r s) = IntOp.andi (IntOp.cmpi .sle (BitVec.ofNat 32 s.val) (BitVec.ofNat 32 r.val))
      (IntOp.cmpi .eq (eighth (BitVec.ofNat 32 r.val)) (eighth (BitVec.ofNat 32 s.val))) := by
    unfold mask k0_pay10 k0_pay6 k0_pay7 k0_pay8 k0_pay9
    pointwise []
    rfl
  rw [h, eighth_eq, eighth_eq]
  exact (by decide +kernel : ∀ r s : Fin 128, IntOp.andi (IntOp.cmpi .sle (BitVec.ofNat 32 s.val) (BitVec.ofNat 32 r.val))
      (IntOp.cmpi .eq (BitVec.ofNat 32 (r.val / 8)) (BitVec.ofNat 32 (s.val / 8)))
    = if s.val ≤ r.val ∧ r.val / 8 = s.val / 8 then 1#1 else 0#1) r s

variable (u v : FVec Ideal S128x2048 .f32) (w : Vec Ideal S8x128x128 .f32) (bias : Vec Ideal S128x8 .f32)

/-- The kept weights of a group of channels, at a row and a column. -/
def kept (g : Fin 8) (r s : Fin 128) : EReal := if s.val ≤ r.val ∧ r.val / 8 = s.val / 8 then w (ix3 g r s) else 0

/-- The gated channels of a block: the channel times the mixed rows of the other half, plus the bias. -/
def gated (r : Fin 128) (j : Fin 2048) : EReal :=
  u (ix2 r j) * (∑ s, kept w (grp j) r s * v (ix2 s j) + bias (ix2 r (grp j)))

/-- The gated channels of one group, as the kernel spells them. -/
def part (o : ℕ) (h : S128x2048.Slices ![0, o] S128x256) (a : Vec Ideal S1x128x128 .f32) (b : Vec Ideal S128x1 .f32) :
    FVec Ideal S128x256 .bf16 :=
  truncf .bf16 (mulf (extractStridedSlice S128x256 ![0, o] u h)
    (addf (matmul dot_S128x128_S128x256_S128x256_1_0_0_1_n_n none
        (truncf .bf16 (select mask (shapeCast S128x128 a shapeCasts_S1x128x128_S128x128)
          (broadcast S128x128 (Scalar.ofBits .f32 0x00000000#32))) bitsLt_bf16_f32)
        (truncf .bf16 (extractStridedSlice S128x256 ![0, o] v h) bitsLt_bf16_f32) (constant S128x256 .f32 0x00000000#32))
      (broadcastTo S128x256 (shapeCast S128x1 b shapeCasts_S128x1_S128x1) broadcasts_S128x1_S128x256))) bitsLt_bf16_f32

/-- A group's gated channels at an index. -/
theorem part_apply (g : Fin 8) (o : ℕ) (ho : o = 256 * g.val) (h : S128x2048.Slices ![0, o] S128x256)
    (a : Vec Ideal S1x128x128 .f32) (b : Vec Ideal S128x1 .f32) (ha : ∀ r s, a (ix3 0 r s) = w (ix3 g r s))
    (hb : ∀ r, b (ix2 r 0) = bias (ix2 r g)) (y : S128x256.Idx) (z : S128x2048.Idx)
    (h0 : (z 0).val = (y 0).val) (h1 : (z 1).val = o + (y 1).val) :
    part u v o h a b y = gated u v w bias (z 0) (z 1) := by
  obtain ⟨r, k, rfl⟩ : ∃ r k, y = ix2 r k := ⟨y 0, y 1, by pointwise []⟩
  have hlt : o + k.val < 2048 := by omega
  have hz : z = ix2 r ⟨o + k.val, hlt⟩ := by
    funext a
    match a with
    | ⟨0, _⟩ => exact Fin.ext h0
    | ⟨1, _⟩ => exact Fin.ext h1
  subst hz
  unfold part gated kept
  generalize hm : mask = M
  pointwise []
  have hg : grp ⟨o + k.val, by omega⟩ = g := Fin.ext (by show (o + k.val) / 256 = g.val; omega)
  show _ = _ * (∑ s : Fin 128, (if s.val ≤ r.val ∧ r.val / 8 = s.val / 8 then w (ix3 (grp ⟨o + k.val, _⟩) r s) else 0) * _
    + bias (ix2 r (grp ⟨o + k.val, _⟩)))
  rw [hg, hb r]
  congr 2
  refine Finset.sum_congr rfl fun s _ => ?_
  rw [← hm, mask_apply, ha r s]
  by_cases hc : s.val ≤ r.val ∧ r.val / 8 = s.val / 8
  · rw [if_pos hc, if_pos hc]; rfl
  · rw [if_neg hc, if_neg hc, zero_mul]; rfl

variable (x2 x3 : Vec Ideal S128x1024 .f32)

/-- A group's store: at each index of its columns it is the gated channels there. -/
theorem piece (e : Fin 8) {n o : ℕ} (hn : n = e.val) (ho : o = 256 * e.val) {h : S128x2048.Slices ![0, o] S128x256}
    {i0 : ∀ a, ![0, o] a + S128x256.size a ≤ S128x2048.size a} {i1 : ∀ a, ![n, 0, 0] a + S1x128x128.size a ≤ S8x128x128.size a}
    {i2 : ∀ a, ![0, n] a + S128x1.size a ≤ S128x8.size a} (x : S128x256.Idx) :
    part u v o h (View.ld w (Rect.unit (s := S8x128x128) ![n, 0, 0] S1x128x128.size i1))
      (View.ld bias (Rect.unit (s := S128x8) ![0, n] S128x1.size i2)) x
    = gated u v w bias ((Rect.unit (s := S128x2048) ![0, o] S128x256.size i0).emb x 0)
        ((Rect.unit (s := S128x2048) ![0, o] S128x256.size i0).emb x 1) := by
  subst hn
  refine part_apply u v w bias e o ho h _ _ (fun r s => ?_) (fun r => ?_) x
    ((Rect.unit (s := S128x2048) ![0, o] S128x256.size i0).emb x) ?_ ?_
  · refine congrArg w (funext fun a => ?_)
    match a with
    | ⟨0, _⟩ => exact Fin.ext (by show e.val + 1 * 0 = e.val; omega)
    | ⟨1, _⟩ => exact Fin.ext (by show 0 + 1 * r.val = r.val; omega)
    | ⟨2, _⟩ => exact Fin.ext (by show 0 + 1 * s.val = s.val; omega)
  · refine congrArg bias (funext fun a => ?_)
    match a with
    | ⟨0, _⟩ => exact Fin.ext (by show 0 + 1 * r.val = r.val; omega)
    | ⟨1, _⟩ => exact Fin.ext (by show e.val + 1 * 0 = e.val; omega)
  · show 0 + 1 * (x 0).val = (x 0).val
    omega
  · show o + 1 * (x 1).val = o + (x 1).val
    omega

/-- What a grid point leaves in the block of gated channels. -/
theorem out_gated (y : S128x2048.Idx) : out0_8 x0 x1 x2 x3 g b w bias y
    = gated (k0_pay3 x0 x1) (k0_pay5 (k0_pay4 x2 x3) g b) w bias (y 0) (y 1) := by
  have e0 (x : Vec Ideal S128x1024 .f32) : View.ld x r0_0 = x := View.ld_unit_zero (by decide) _ _
  have e1 (x : Vec Ideal S1x2048 .f32) : View.ld x r0_1 = x := View.ld_unit_zero (by decide) _ _
  unfold_out out0_8
  rw [e0, e0, e0, e0, e1, e1]
  generalize k0_pay3 x0 x1 = u
  generalize k0_pay5 (k0_pay4 x2 x3) g b = v
  refine View.canon_apply_of_pieces (Val := Elt Ideal) (e := .bf16) (fun y => gated u v w bias (y 0) (y 1)) _ ?_ y (cover0_8 _ _ _ _ _ _ _ _ y)
  refine List.forall_mem_cons.2 ⟨piece u v w bias 7 (n := 7) (o := 1792) rfl rfl (i0 := by decide), ?_⟩
  refine List.forall_mem_cons.2 ⟨piece u v w bias 6 (n := 6) (o := 1536) rfl rfl (i0 := by decide), ?_⟩
  refine List.forall_mem_cons.2 ⟨piece u v w bias 5 (n := 5) (o := 1280) rfl rfl (i0 := by decide), ?_⟩
  refine List.forall_mem_cons.2 ⟨piece u v w bias 4 (n := 4) (o := 1024) rfl rfl (i0 := by decide), ?_⟩
  refine List.forall_mem_cons.2 ⟨piece u v w bias 3 (n := 3) (o := 768) rfl rfl (i0 := by decide), ?_⟩
  refine List.forall_mem_cons.2 ⟨piece u v w bias 2 (n := 2) (o := 512) rfl rfl (i0 := by decide), ?_⟩
  refine List.forall_mem_cons.2 ⟨piece u v w bias 1 (n := 1) (o := 256) rfl rfl (i0 := by decide), ?_⟩
  refine List.forall_mem_cons.2 ⟨piece u v w bias 0 (n := 0) (o := 0) rfl rfl (i0 := by decide), ?_⟩
  exact List.forall_mem_nil _

end Cert.Proof.SpatialGate

end
-- ==== Proof.SpatialGateRef.lean ====
/- The reference of the spatial gate of the sample batch, read at an index: the plain gate and the plain normed channels. -/
module

public import proofs.«01_k».proof.Proof.SpatialGateMath
public import proofs.«01_k».proof.Proof.Gen.Reference9Ideal.Read
public import Idealize.ShloMosaic.Lib.Pipeline.ValueKit
public import Idealize.ShloMosaic.Lib.KernelVsHost

@[expose] public section

set_option maxRecDepth 16384

noncomputable section

namespace Cert.Proof.SpatialGate

open Idealize.ShloMosaic Idealize.ShloMosaic.TcCoe Idealize.SL.Sem
open Cert.Reference9Ideal Cert.Reference9Ideal.Gen Cert.Reference9Ideal.Read

variable (X : FVec Ideal S256x21504 .f32) (g s : FVec Ideal S2048 .f32) (w : FVec Ideal S8x128x128 .f32)
  (bias : FVec Ideal S8x128 .f32) (b : Fin 32) (t : Fin 8) (j : Fin 2048)

/-- The reference's row of a sample. -/
abbrev row (b : Fin 32) (t : Fin 8) : Fin 256 := ⟨8 * b.val + t.val, by omega⟩

/-- A slice of the projection, seen sample by sample, at an index. -/
theorem v1_at : val_main_v1 (F := Ideal) X (ix3 b t j) = X (ix2 (row b t) ⟨9216 + j.val, by omega⟩) := by
  rw [val_main_v1_apply, val_main_v0_apply]
  refine congrArg X (funext fun a => ?_)
  match a with
  | ⟨0, _⟩ => exact Fin.ext (by show ((b.val * 8 + t.val) * 21504 + (9216 + j.val)) / 21504 = 8 * b.val + t.val; omega)
  | ⟨1, _⟩ => exact Fin.ext (by show ((b.val * 8 + t.val) * 21504 + (9216 + j.val)) % 21504 = 9216 + j.val; omega)

/-- The other slice at an index. -/
theorem v2_at : val_main_v2 (F := Ideal) X (ix3 b t j) = X (ix2 (row b t) ⟨11264 + j.val, by omega⟩) := by
  rw [val_main_v2_apply, val_main_v0_apply]
  refine congrArg X (funext fun a => ?_)
  match a with
  | ⟨0, _⟩ => exact Fin.ext (by show ((b.val * 8 + t.val) * 21504 + (11264 + j.val)) / 21504 = 8 * b.val + t.val; omega)
  | ⟨1, _⟩ => exact Fin.ext (by show ((b.val * 8 + t.val) * 21504 + (11264 + j.val)) % 21504 = 11264 + j.val; omega)

/-- The reference's own channels of the gate. -/
theorem v9_at : val_main_v9 (F := Ideal) X (ix3 b t j) = chan (fun R k => X (ix2 R k)) (row b t) j := by
  show _ = gelu (X (ix2 (row b t) ⟨9216 + j.val, _⟩))
  rw [← gelu_eq, ← v1_at X b t j, val_main_v9_apply, val_main_v4_apply, val_main_v8_apply, val_main_v7_apply, val_main_v5_apply]
  generalize val_main_v1 (F := Ideal) X (ix3 b t j) = x
  rw [val_main_v3_apply, val_main_v6_apply]
  rfl

/-- The reference's gelu of the other half. -/
theorem v16_at : val_main_v16 (F := Ideal) X (ix3 b t j) = gelu (X (ix2 (row b t) ⟨11264 + j.val, by omega⟩)) := by
  rw [← gelu_eq, ← v2_at X b t j, val_main_v16_apply, val_main_v11_apply, val_main_v15_apply, val_main_v14_apply, val_main_v12_apply]
  generalize val_main_v2 (F := Ideal) X (ix3 b t j) = x
  rw [val_main_v10_apply, val_main_v13_apply]
  rfl

/-- An index of three axes from its places. -/
theorem at3 (i : S32x8x2048.Idx) (b : Fin 32) (t : Fin 8) (k : Fin 2048) (h0 : (i 0).val = b.val) (h1 : (i 1).val = t.val)
    (h2 : (i 2).val = k.val) : i = ix3 b t k := funext fun a => match a with
  | ⟨0, _⟩ => Fin.ext h0
  | ⟨1, _⟩ => Fin.ext h1
  | ⟨2, _⟩ => Fin.ext h2

/-- A row of the reference's gelu. -/
abbrev half (k : Fin 2048) : EReal := gelu (X (ix2 (row b t) ⟨11264 + k.val, by omega⟩))

/-- The reference's mean of a row. -/
theorem v20_at (i : S32x8x1.Idx) (h0 : (i 0).val = b.val) (h1 : (i 1).val = t.val) :
    val_main_v20 (F := Ideal) X i = avg (half X b t) := by
  have h : ∑ k : Fin 2048, val_main_v16 (F := Ideal) X (idx_main_v17 (idx_main_v18 i) k) = ∑ k, half X b t k :=
    Finset.sum_congr rfl fun k _ => (congrArg (val_main_v16 (F := Ideal) X) (at3 _ b t k h0 h1 rfl)).trans (v16_at X b t k)
  rw [val_main_v20_apply, val_main_v18_apply, val_main_v17_apply, h, val_main_v19_apply]
  show Ideal.div (Ideal.ofBits .f32 0x00000000#32 + _) _ = _
  rw [Ideal.ofBits_zero_f32, zero_add]
  rfl

/-- The reference's centred row. -/
theorem v22_at : val_main_v22 (F := Ideal) X (ix3 b t j) = half X b t j - avg (half X b t) := by
  rw [val_main_v22_apply, v16_at, val_main_v21_apply, v20_at X b t _ rfl rfl]
  rfl

/-- The reference's reciprocal deviation of a row. -/
theorem v30_at (i : S32x8x1.Idx) (h0 : (i 0).val = b.val) (h1 : (i 1).val = t.val) : val_main_v30 (F := Ideal) X i
    = Ideal.rsqrt (avg (fun k => (half X b t k - avg (half X b t)) * (half X b t k - avg (half X b t)))
        + Ideal.ofBits .f32 0x358637BD#32) := by
  have h : ∑ k : Fin 2048, val_main_v23 (F := Ideal) X (idx_main_v24 (idx_main_v25 i) k)
      = ∑ k, (half X b t k - avg (half X b t)) * (half X b t k - avg (half X b t)) :=
    Finset.sum_congr rfl fun k _ => (congrArg (val_main_v23 (F := Ideal) X) (at3 _ b t k h0 h1 rfl)).trans (by rw [val_main_v23_apply, v22_at]; rfl)
  rw [val_main_v30_apply, val_main_v29_apply, val_main_v27_apply, val_main_v25_apply, val_main_v24_apply, h,
    val_main_v26_apply, val_main_v28_apply]
  show Ideal.rsqrt (Ideal.div (Ideal.ofBits .f32 0x00000000#32 + _) _ + _) = _
  rw [Ideal.ofBits_zero_f32, zero_add]
  rfl

/-- The reference's normed channels. -/
theorem v38_at : val_main_v38 (F := Ideal) X g s (ix3 b t j)
    = normed (fun R k => X (ix2 R k)) (fun k => g (ix1 k)) (fun k => s (ix1 k)) (row b t) j := by
  rw [val_main_v38_apply, val_main_v35_apply, val_main_v32_apply, v22_at, val_main_v31_apply, v30_at X b t _ rfl rfl,
    val_main_v34_apply, val_main_v33_apply, val_main_v37_apply, val_main_v36_apply]
  have hg : idx_main_v33 (idx_main_v34 (ix3 b t j)) = ix1 j := funext fun a => match a with | ⟨0, _⟩ => rfl
  have hs : idx_main_v36 (idx_main_v37 (ix3 b t j)) = ix1 j := funext fun a => match a with | ⟨0, _⟩ => rfl
  rw [hg, hs]
  rfl

/-- The reference's rows of a sample, padded to 128 and listed by group, at a row of the sample. -/
theorem v40_at (i : S32x1x128x8x256.Idx) (h0 : (i 0).val = b.val) (h2 : (i 2).val = t.val)
    (h3 : (i 3).val = j.val / 256) (h4 : (i 4).val = j.val % 256) :
    val_main_v40 (F := Ideal) X g s i = val_main_v38 (F := Ideal) X g s (ix3 b t j) := by
  have h1 : (i 1).val < 1 := (i 1).isLt
  rw [val_main_v40_apply]
  unfold val_main_v39
  generalize val_main_v38 (F := Ideal) X g s = A
  refine pad_apply_of_inside _ _ _ _ _ _ _ _ _ fun a => ?_
  match a with
  | ⟨0, _⟩ =>
    show ((((((i 0).val * 1 + (i 1).val) * 128 + (i 2).val) * 8 + (i 3).val) * 256 + (i 4).val) / 262144) = 0 + b.val * 1
    omega
  | ⟨1, _⟩ =>
    show ((((((i 0).val * 1 + (i 1).val) * 128 + (i 2).val) * 8 + (i 3).val) * 256 + (i 4).val) / 2048 % 128) = 0 + t.val * 1
    omega
  | ⟨2, _⟩ =>
    show ((((((i 0).val * 1 + (i 1).val) * 128 + (i 2).val) * 8 + (i 3).val) * 256 + (i 4).val) % 2048) = 0 + j.val * 1
    omega

/-- The reference's lower triangle of ones. -/
theorem v42_at (r k : Fin 128) : val_main_v42 (F := Ideal) (ix2 r k) = if k.val ≤ r.val then 1 else 0 := by
  have h : val_main_call1_v4 (F := Ideal) (ix2 r k) = if k.val ≤ r.val then 1#1 else 0#1 :=
    (by decide +kernel : ∀ r k : Fin 128, IntOp.cmpi .sge (IntOp.addi (BitVec.ofNat 32 r.val) 0#32) (BitVec.ofNat 32 k.val)
      = if k.val ≤ r.val then 1#1 else 0#1) r k
  rw [val_main_v42_apply, h, val_main_v41_apply, val_main_call1_v5_apply]
  split_ifs
  · exact Ideal.ofBits_one_f32
  · exact Ideal.ofBits_zero_f32

/-- The reference's weights, kept on and below the diagonal. -/
theorem v45_at (e : Fin 8) (r k : Fin 128) : val_main_v45 (F := Ideal) w (ix3 e r k) = if k.val ≤ r.val then w (ix3 e r k) else 0 := by
  rw [val_main_v45_apply, val_main_v44_apply, val_main_v43_apply]
  have h : idx_main_v43 (idx_main_v44 (ix3 e r k)) = ix2 r k := funext fun a => match a with
    | ⟨0, _⟩ => rfl
    | ⟨1, _⟩ => rfl
  rw [h, v42_at]
  show w _ * _ = _
  split_ifs
  · exact mul_one _
  · exact mul_zero _

/-- The mixed rows of a sample, with the bias. -/
theorem v53_at : val_main_v53 (F := Ideal) X g s w bias (ix3 b t j)
    = ∑ k : Fin 8, (if k.val ≤ t.val then w (ix3 (grp j) ⟨t.val, by omega⟩ ⟨k.val, by omega⟩) else 0)
        * val_main_v38 (F := Ideal) X g s (ix3 b k j) + bias (ix2 (grp j) ⟨t.val, by omega⟩) := by
  have hr (k : Fin 128) : ridx_main_v46 (idx_main_v47 (idx_main_v52 (idx_main_v53 (ix3 b t j)))) k
      = ix3 (grp j) ⟨t.val, by omega⟩ k := funext fun a => match a with
    | ⟨0, _⟩ => Fin.ext (by show ((b.val * 128 + t.val) * 2048 + j.val) / 256 % 8 = j.val / 256; omega)
    | ⟨1, _⟩ => Fin.ext (by show ((b.val * 128 + t.val) * 2048 + j.val) / 2048 % 128 = t.val; omega)
    | ⟨2, _⟩ => rfl
  have hb : idx_main_v48 (idx_main_v49 (idx_main_v50 (idx_main_v52 (idx_main_v53 (ix3 b t j)))))
      = ix2 (grp j) ⟨t.val, by omega⟩ := funext fun a => match a with
    | ⟨0, _⟩ => Fin.ext (by show ((b.val * 128 + t.val) * 2048 + j.val) / 256 % 8 = j.val / 256; omega)
    | ⟨1, _⟩ => Fin.ext (by show ((b.val * 128 + t.val) * 2048 + j.val) / 2048 % 128 = t.val; omega)
  rw [val_main_v53_apply, val_main_v52_apply, val_main_v51_apply, val_main_v47_apply, val_main_v46_apply, val_main_v50_apply,
    val_main_v49_apply, val_main_v48_apply, hb]
  refine congrArg (· + bias _) (Attn.sum_listed (fun k : Fin 8 => (⟨k.val, by omega⟩ : Fin 128)) (fun _ => True) _ _
    (fun _ _ _ _ h => Fin.ext (Fin.mk.inj h)) (fun k _ => ?_) (fun c hc => ?_) fun _ h => absurd trivial h)
  · rw [hr, v45_at, mul_comm]
    refine congrArg _ (v40_at X g s b k j _ ?_ rfl ?_ ?_)
    · show ((b.val * 128 + t.val) * 2048 + j.val) / 262144 = b.val; omega
    · show ((b.val * 128 + t.val) * 2048 + j.val) / 256 % 8 = j.val / 256; omega
    · show ((b.val * 128 + t.val) * 2048 + j.val) % 256 = j.val % 256; omega
  · have h8 : ¬ c.val ≤ t.val := fun h => hc ⟨c.val, by omega⟩ trivial rfl
    rw [hr, v45_at, if_neg h8, mul_zero]

/-- The reference's gate at an index of the result. -/
theorem v56_at (R : Fin 256) : val_main_v56 (F := Ideal) X g s w bias (ix2 R j)
    = gate (fun R k => X (ix2 R k)) (fun k => g (ix1 k)) (fun k => s (ix1 k)) (fun e r k => w (ix3 e r k))
        (fun e r => bias (ix2 e r)) ⟨R.val / 8, by omega⟩ ⟨R.val % 8, by omega⟩ j := by
  have hi : idx_main_v55 (ix2 R j) = ix3 ⟨R.val / 8, by omega⟩ ⟨R.val % 8, by omega⟩ j := at3 _ _ _ _
    (by show (R.val * 2048 + j.val) / 16384 = R.val / 8; omega)
    (by show (R.val * 2048 + j.val) / 2048 % 8 = R.val % 8; omega)
    (by show (R.val * 2048 + j.val) % 2048 = j.val; omega)
  rw [val_main_v56_apply]
  show val_main_v55 (F := Ideal) X g s w bias (ix2 R j) = _
  rw [val_main_v55_apply, hi, val_main_v54_apply, v9_at, v53_at]
  unfold gate
  refine congrArg (chan _ _ j * ·) (congrArg (· + bias _) (Finset.sum_congr rfl fun k _ => ?_))
  rw [v38_at]

/-- The reference's normed channels at an index of the result. -/
theorem v57_at (R : Fin 256) : val_main_v57 (F := Ideal) X g s (ix2 R j)
    = normed (fun R k => X (ix2 R k)) (fun k => g (ix1 k)) (fun k => s (ix1 k)) R j := by
  have hi : idx_main_v57 (ix2 R j) = ix3 ⟨R.val / 8, by omega⟩ ⟨R.val % 8, by omega⟩ j := at3 _ _ _ _
    (by show (R.val * 2048 + j.val) / 16384 = R.val / 8; omega)
    (by show (R.val * 2048 + j.val) / 2048 % 8 = R.val % 8; omega)
    (by show (R.val * 2048 + j.val) % 2048 = j.val; omega)
  rw [val_main_v57_apply, hi, v38_at]
  exact congrArg (normed _ _ _ · j) (Fin.ext (by show 8 * (R.val / 8) + R.val % 8 = R.val; omega))

end Cert.Proof.SpatialGate

end
-- ==== Proof.SpatialGate.lean ====
/- The spatial gate of the sample batch: what the kernel leaves in its two result arrays is the reference's gate and its normed channels. -/
module

public import proofs.«01_k».proof.Proof.SpatialGateKernel
public import proofs.«01_k».proof.Proof.SpatialGateRef
public import Idealize.ShloMosaic.Lib.Pipeline.ValueKit
public import Idealize.ShloMosaic.Lib.Claim

@[expose] public section

set_option maxRecDepth 16384

noncomputable section

namespace Cert.Proof.SpatialGate

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- Where each window's block sits at a grid point. -/
theorem idx : ∀ t : Fin cfg0.N, win0_0.index t = ![t.val, 9] ∧ win0_1.index t = ![t.val, 10]
    ∧ win0_2.index t = ![t.val, 11] ∧ win0_3.index t = ![t.val, 12]
    ∧ win0_4.index t = ![0, 0] ∧ win0_5.index t = ![0, 0] ∧ win0_6.index t = ![0, 0, 0] ∧ win0_7.index t = ![0, 0]
    ∧ win0_8.index t = ![t.val, 0] ∧ win0_9.index t = ![t.val, 0] :=
  (by decide +kernel : ∀ t : Fin grid0.N, _)

variable (c : Dev nD) (t : Fin cfg0.N)

/-- A row of the arrays, from a grid point and a row of its block. -/
def at128 (r : Fin 128) : Fin 256 := ⟨128 * t.val + r.val, by have h : t.val < 2 := t.isLt; omega⟩

/-- The block of gains. -/
theorem gains (j : Fin 2048) : iblk m c 4 t (ix2 0 j) = m ((c : Thread nD τ).loc main_arg1) (ix1 j) := by
  blk_point [iblk, V, idx t]

/-- The block of shifts. -/
theorem shifts (j : Fin 2048) : iblk m c 5 t (ix2 0 j) = m ((c : Thread nD τ).loc main_arg2) (ix1 j) := by
  blk_point [iblk, V, idx t]

/-- The block of biases: those of the first eight rows, again and again. -/
theorem biases (r : Fin 128) (e : Fin 8) : iblk m c 7 t (ix2 r e)
    = m ((c : Thread nD τ).loc main_arg4) (ix2 e ⟨r.val % 8, by omega⟩) := by
  blk_point [iblk, V, idx t]

/-- The block of weights: the first eight rows and columns, again and again. -/
theorem weights (e : Fin 8) (r s : Fin 128) : iblk m c 6 t (ix3 e r s)
    = m ((c : Thread nD τ).loc main_arg3) (ix3 e ⟨r.val % 8, by omega⟩ ⟨s.val % 8, by omega⟩) := by
  blk_point [iblk, V, idx t]

/-- Two blocks side by side, when each is a half of a row. -/
theorem wide_of (x0 x1 : Vec Ideal S128x1024 .f32) (r : Fin 128) (j : Fin 2048) (f : Fin 2048 → EReal)
    (h0 : ∀ k : Fin 1024, x0 (ix2 r k) = f ⟨k.val, by omega⟩) (h1 : ∀ k : Fin 1024, x1 (ix2 r k) = f ⟨1024 + k.val, by omega⟩) :
    wide x0 x1 (ix2 r j) = f j := by
  unfold wide
  by_cases hj : j.val < 1024
  · refine (concatenate_pair_apply_left (t := S128x2048) (1 : Fin 2) x0 x1 _ _ rfl (ix2 r ⟨j.val, hj⟩) fun a => ?_).trans (h0 _)
    match a with
    | ⟨0, _⟩ => rfl
    | ⟨1, _⟩ => rfl
  · have hb : j.val - 1024 < 1024 := by omega
    refine (concatenate_pair_apply_right (t := S128x2048) (1 : Fin 2) x0 x1 _ _ rfl rfl (ix2 r ⟨j.val - 1024, hb⟩) (fun a ha => ?_) ?_).trans
      ((h1 _).trans (congrArg f (Fin.ext (by show 1024 + (j.val - 1024) = j.val; omega))))
    · match a, ha with
      | ⟨0, _⟩, _ => rfl
      | ⟨1, _⟩, h => exact absurd rfl h
    · show j.val - 1024 + 1024 = j.val
      omega

/-- The projection by row and column, the gains, the shifts, the weights and the biases the kernel starts from. -/
abbrev proj (R : Fin 256) (k : Fin 21504) : EReal := m ((c : Thread nD τ).loc main_arg0) (ix2 R k)
abbrev gain (k : Fin 2048) : EReal := m ((c : Thread nD τ).loc main_arg1) (ix1 k)
abbrev shift (k : Fin 2048) : EReal := m ((c : Thread nD τ).loc main_arg2) (ix1 k)
abbrev wts (e : Fin 8) (r k : Fin 128) : EReal := m ((c : Thread nD τ).loc main_arg3) (ix3 e r k)
abbrev bia (e : Fin 8) (r : Fin 128) : EReal := m ((c : Thread nD τ).loc main_arg4) (ix2 e r)

/-- The gate's own channels of the projection in a block. -/
theorem wide_own (r : Fin 128) (j : Fin 2048) : wide (iblk m c 0 t) (iblk m c 1 t) (ix2 r j)
    = proj m c (at128 t r) ⟨9216 + j.val, by omega⟩ := by
  refine wide_of _ _ r j (fun j => proj m c (at128 t r) ⟨9216 + j.val, by omega⟩) (fun k => ?_) fun k => ?_ <;>
  · unfold at128
    blk_point [iblk, V, idx t]

/-- The mixed channels of the projection in a block. -/
theorem wide_mixed (r : Fin 128) (j : Fin 2048) : wide (iblk m c 2 t) (iblk m c 3 t) (ix2 r j)
    = proj m c (at128 t r) ⟨11264 + j.val, by omega⟩ := by
  refine wide_of _ _ r j (fun j => proj m c (at128 t r) ⟨11264 + j.val, by omega⟩) (fun k => ?_) fun k => ?_ <;>
  · unfold at128
    blk_point [iblk, V, idx t]

/-- The gelu of a block's own channels. -/
theorem own (r : Fin 128) (j : Fin 2048) : k0_pay3 (iblk m c 0 t) (iblk m c 1 t) (ix2 r j) = chan (proj m c) (at128 t r) j := by
  rw [pay3_apply, wide_own]
  rfl

/-- The normed channels of a block. -/
theorem mixed (r : Fin 128) (j : Fin 2048) :
    k0_pay5 (k0_pay4 (iblk m c 2 t) (iblk m c 3 t)) (iblk m c 4 t) (iblk m c 5 t) (ix2 r j)
      = normed (proj m c) (gain m c) (shift m c) (at128 t r) j := by
  rw [pay5_apply, gains, shifts, show (fun k => gelu (wide (iblk m c 2 t) (iblk m c 3 t) (ix2 r k)))
    = fun k => gelu (proj m c (at128 t r) ⟨11264 + k.val, by omega⟩) from funext fun k => by rw [wide_mixed]]
  rfl

/-- The gated channels of a block: only the rows of a row's own sample count. -/
theorem gated_eq (r : Fin 128) (j : Fin 2048) :
    gated (k0_pay3 (iblk m c 0 t) (iblk m c 1 t)) (k0_pay5 (k0_pay4 (iblk m c 2 t) (iblk m c 3 t)) (iblk m c 4 t) (iblk m c 5 t))
        (iblk m c 6 t) (iblk m c 7 t) r j
      = gate (proj m c) (gain m c) (shift m c) (wts m c) (bia m c) ⟨(at128 t r).val / 8, by omega⟩
          ⟨(at128 t r).val % 8, by omega⟩ j := by
  have hR : (at128 t r).val = 128 * t.val + r.val := rfl
  unfold gated gate
  rw [own, biases]
  refine congrArg₂ (· * ·) (congrArg (chan _ · j) (Fin.ext (by show (at128 t r).val = 8 * ((at128 t r).val / 8) + (at128 t r).val % 8; omega)))
    (congrArg₂ (· + ·) ?_ (congrArg (bia m c (grp j)) (Fin.ext (by show r.val % 8 = (at128 t r).val % 8; omega))))
  refine Attn.sum_listed (fun k : Fin 8 => (⟨8 * (r.val / 8) + k.val, by omega⟩ : Fin 128)) (fun _ => True) _ _
    (fun i k _ _ h => Fin.ext (by have := Fin.mk.inj h; omega)) (fun k _ => ?_) (fun s hs => ?_) fun _ h => absurd trivial h
  · rw [mixed]
    unfold kept
    rw [weights]
    refine congrArg₂ (· * ·) (if_congr ?_ (congrArg₂ (wts m c (grp j)) (Fin.ext ?_) (Fin.ext ?_)) rfl)
      (congrArg (normed _ _ _ · j) (Fin.ext ?_))
    · show 8 * (r.val / 8) + k.val ≤ r.val ∧ r.val / 8 = (8 * (r.val / 8) + k.val) / 8 ↔ k.val ≤ (at128 t r).val % 8
      omega
    · show r.val % 8 = (at128 t r).val % 8
      omega
    · show (8 * (r.val / 8) + k.val) % 8 = k.val
      omega
    · show 128 * t.val + (8 * (r.val / 8) + k.val) = 8 * ((at128 t r).val / 8) + k.val
      omega
  · unfold kept
    rw [if_neg, zero_mul]
    rintro ⟨_, h⟩
    exact hs ⟨s.val % 8, by omega⟩ trivial (Fin.ext (by show 8 * (r.val / 8) + s.val % 8 = s.val; omega))

/-- The reference's gate, of the arrays the kernel starts from. -/
abbrev gateArr : FVec Ideal S256x2048 .bf16 := Cert.Reference9Ideal.Read.val_main_v56 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

/-- The reference's normed channels, of the arrays the kernel starts from. -/
abbrev normArr : FVec Ideal S256x2048 .f32 := Cert.Reference9Ideal.Read.val_main_v57 (F := Ideal)
  (m ((c : Thread nD τ).loc main_arg0)) (m ((c : Thread nD τ).loc main_arg1)) (m ((c : Thread nD τ).loc main_arg2))

/-- Where an index of a block of the gate sits in the array. -/
theorem emb8 (y : S128x2048.Idx) : ((cfg0.win 8).blk t).view.emb y = ix2 (at128 t (y 0)) (y 1) := by
  unfold at128
  blk_point [idx t]

/-- Where an index of a block of the normed channels sits in the array. -/
theorem emb9 (y : S128x2048.Idx) : ((cfg0.win 9).blk t).view.emb y = ix2 (at128 t (y 0)) (y 1) := by
  unfold at128
  blk_point [idx t]

/-- The array of gated channels after the run is the reference's gate. -/
theorem final_gate : (dats m 0 c).arrAt 8 (cfgs 0).N = gateArr m c := by
  refine (dats m 0 c).arrAt_eq_of_covers 8 _ (by decide +kernel) fun t _ y => ?_
  blk_simp
  rw [after0_8, out_gated]
  refine (gated_eq m c t (y 0) (y 1)).trans ?_
  rw [emb8]
  exact (v56_at _ _ _ _ _ _ _).symm

/-- The array of normed channels after the run is the reference's. -/
theorem final_norm : (dats m 0 c).arrAt 9 (cfgs 0).N = normArr m c := by
  refine (dats m 0 c).arrAt_eq_of_covers 9 _ (by decide +kernel) fun t _ y => ?_
  blk_simp
  rw [after0_9]; frame_out
  have e (x : Vec Ideal S128x1024 .f32) : View.ld x r0_0 = x := View.ld_unit_zero (by decide) _ _
  unfold k0_pay20
  rw [e, e]
  refine Eq.trans (congrArg _ (funext fun a => ?_)) ((mixed m c t (y 0) (y 1)).trans ?_)
  · match a with
    | ⟨0, _⟩ => rfl
    | ⟨1, _⟩ => rfl
  rw [emb9]
  exact (v57_at _ _ _ _ _).symm

end Cert.Proof.SpatialGate

end
-- ==== Proof.SpatialGateClaim.lean ====
/- The value claim of the spatial gate of the sample batch. -/
module

public import proofs.«01_k».proof.Defs
public import proofs.«01_k».proof.Proof.SpatialGate
public import proofs.«01_k».proof.Proof.Gen.Reference9Ideal.Run

@[expose] public section

set_option maxRecDepth 16384

noncomputable section

namespace Cert.Proof

open Idealize.ShloMosaic Idealize.SL.Sem

/-- The spatial gate of the sample batch and its normed channels equal their reference. -/
theorem algebraic9 : Cert.algebraic_Kernel9Ideal_Reference9Ideal := by
  pair_intro
  · run_from Cert.Kernel9Ideal.Gen.run_main m g
  · run_from Cert.Reference9Ideal.Value.run (F := Ideal) m' g'
    · obtain ⟨h0, h1, h2, h3, h4⟩ := hagree c
      refine (Cert.Reference9Ideal.Read.val_main_v56_eq (F := Ideal) ..).trans ?_
      rw [h0, h1, h2, h3, h4]
      exact (SpatialGate.final_gate m c).symm
    · obtain ⟨h0, h1, h2, h3, h4⟩ := hagree c
      refine (Cert.Reference9Ideal.Read.val_main_v57_eq (F := Ideal) ..).trans ?_
      rw [h0, h1, h2]
      exact (SpatialGate.final_norm m c).symm

end Cert.Proof

end
-- ==== Proof.AttnStack.lean ====
/-
  The blocks of queries, keys and values the attention kernel stacks: each is a load of rows in steps of the
  dilation, and a stack of sixteen of them is named by the row and the step.
-/
module

public import proofs.«01_k».proof.Proof.Gen.KernelIdeal.Value
public import Idealize.ShloMosaic.Lib.Pipeline.ValueKit
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- A position along the 2048 rows of a head's block. -/
def pos (n : ℕ) : Fin 2048 := ⟨n % 2048, Nat.mod_lt _ (by decide)⟩

/-- The 128 rows of `x` that start at row `n0` and go in steps of `D`. -/
def slab (x : S1x2048x128.Idx → EReal) (n0 D : ℕ) : S1x128x128.Idx → EReal :=
  fun y => x (ix3 0 (pos (n0 + D * (y 1).val)) (y 2))

/-- The first row of block `b` of a group of dilation `D`: blocks go through the `D` residues, then through time. -/
def first (D b : ℕ) : ℕ := b % D + 128 * D * (b / D)

/-- A strided load of 128 rows is a slab. -/
theorem load_strided {sp : Space} {arg : Memref sig .tc sp S1x2048x128 .f32} (harg : arg.IsWhole) (x : S1x2048x128.Idx → Elt Ideal .f32)
    (n0 D : ℕ) (inb) :
    View.readAt (Elt Ideal) arg.view ⟨![0, n0, 0], ![1, 128, 128], ![1, D, 1], inb⟩ (harg.unread x) = slab x n0 D := by
  funext y
  rw [harg.readAt_unread]
  refine congrArg x ?_
  have h1 : (y 1).val < 128 := (y 1).isLt
  have hb := inb 1
  have h2 : n0 + D * (y 1).val < 2048 := by
    have hb' : (128 : ℕ) = 0 ∨ n0 + D * (128 - 1) < 2048 := hb
    rcases hb' with h | h
    · omega
    · have : D * (y 1).val ≤ D * 127 := Nat.mul_le_mul_left _ (by omega)
      omega
  funext a
  refine Fin.ext ?_
  fin_cases a
  · show 0 + 1 * (y 0).val = 0
    have : (y 0).val < 1 := (y 0).isLt
    omega
  · show n0 + D * (y 1).val = (n0 + D * (y 1).val) % 2048
    exact (Nat.mod_eq_of_lt h2).symm
  · show 0 + 1 * (y 2).val = (y 2).val
    omega

/-- A load of 128 rows next to one another is a slab of step one. -/
theorem load_unit {sp : Space} {arg : Memref sig .tc sp S1x2048x128 .f32} (harg : arg.IsWhole) (x : S1x2048x128.Idx → Elt Ideal .f32)
    (n0 : ℕ) (inb) :
    View.readAt (Elt Ideal) arg.view (Rect.unit (s := S1x2048x128) ![0, n0, 0] ![1, 128, 128] inb).toLoadRect (harg.unread x) = slab x n0 1 := by
  funext y
  rw [harg.readAt_unread]
  refine congrArg x ?_
  have h1 : (y 1).val < 128 := (y 1).isLt
  have hb : n0 + 128 ≤ 2048 := inb 1
  funext a
  refine Fin.ext ?_
  fin_cases a
  · show 0 + 1 * (y 0).val = 0
    have : (y 0).val < 1 := (y 0).isLt
    omega
  · show n0 + 1 * (y 1).val = (n0 + 1 * (y 1).val) % 2048
    omega
  · show 0 + 1 * (y 2).val = (y 2).val
    omega

/-- A stack of 16 slices, read at an index. -/
theorem stack_apply {m k : ℕ} (P : ℕ → (⟨3, ![1, m, k]⟩ : Shape).Idx → EReal) (xs : List ((s : Shape) × (s.Idx → EReal)))
    (hx : xs = List.ofFn fun n : Fin 16 => (⟨⟨3, ![1, m, k]⟩, P n.val⟩ : (s : Shape) × (s.Idx → EReal)))
    {h : Shape.Concatenates (xs.map (·.1)) ⟨3, ![16, m, k]⟩ 0} (y : (⟨3, ![16, m, k]⟩ : Shape).Idx) :
    concatenate ⟨3, ![16, m, k]⟩ 0 xs h y = P (y 0).val (ix3 0 (y 1) (y 2)) := by
  subst hx
  refine concatenate_ofFn_unit_apply (t := ⟨3, ![16, m, k]⟩) (s₁ := ⟨3, ![1, m, k]⟩) 0 (fun n : Fin 16 => P n.val) h rfl rfl y (y 0) rfl
    (ix3 0 (y 1) (y 2)) ?_
  intro b hb
  fin_cases b
  · exact absurd rfl hb
  · rfl
  · rfl

/-- Two runs of 128 rows of `x` laid end to end: from `n0`, then from `n1`, both in steps of `D`. -/
def pairSlab (x : S1x2048x128.Idx → EReal) (n0 n1 D : ℕ) : S1x256x128.Idx → EReal :=
  fun y => if (y 1).val < 128 then x (ix3 0 (pos (n0 + D * (y 1).val)) (y 2)) else x (ix3 0 (pos (n1 + D * ((y 1).val - 128))) (y 2))

/-- The block before block `b`, of the same residue; a first block stands in for its own. -/
def prev (D b : ℕ) : ℕ := if b < D then b else b - D

/-- Two slices laid end to end. -/
def pair (f0 f1 : S1x128x128.Idx → EReal) : S1x256x128.Idx → EReal :=
  fun y => if h : (y 1).val < 128 then f0 (ix3 0 ⟨(y 1).val, h⟩ (y 2))
    else f1 (ix3 0 ⟨(y 1).val - 128, by have : (y 1).val < 256 := (y 1).isLt; omega⟩ (y 2))

/-- Two slices, cast to the narrow format and laid end to end. -/
theorem pair_eq (f0 f1 : S1x128x128.Idx → EReal) {h0 h1 b0 b1 hc h4} :
    shapeCast S1x256x128 (concatenate S256x128 0
      [⟨S128x128, truncf (F := Ideal) (φ := .f32) .bf16 (shapeCast S128x128 f0 h0) b0⟩,
        ⟨S128x128, truncf (F := Ideal) (φ := .f32) .bf16 (shapeCast S128x128 f1 h1) b1⟩] hc) h4 = pair f0 f1 := by
  funext y
  pointwise [pair]

/-- Two slabs laid end to end are two runs of rows. -/
theorem pair_slab (x : S1x2048x128.Idx → EReal) (n0 n1 D : ℕ) : pair (slab x n0 D) (slab x n1 D) = pairSlab x n0 n1 D := by
  funext y
  unfold pair pairSlab
  split <;> rfl

/-- A slice cast to the narrow format is the slice. -/
theorem trunc_eq (f : S1x128x128.Idx → EReal) {h0 b0 h4} :
    shapeCast S1x128x128 (truncf (F := Ideal) (φ := .f32) .bf16 (shapeCast S128x128 f h0) b0) h4 = f := by
  show shapeCast S1x128x128 (shapeCast S128x128 f h0) h4 = f
  exact shapeCast_shapeCast f h0 h4

variable (c : Dev nD)

/-- The queries of group 0, stacked. -/
theorem q0 {arg : Memref sig .tc .vmem S1x2048x128 .f32} (h : arg.IsWhole) (x : S1x2048x128.Idx → Elt Ideal .f32) (y : S16x128x128.Idx) :
    kernelRun0_A.sl.r_18 (F := Ideal) c arg h x y = slab x (first 1 (y 0).val) 1 (ix3 0 (y 1) (y 2)) := by
  unfold kernelRun0_A.sl.r_18 k0_pay24
  refine stack_apply (m := 128) (k := 128) (fun b => slab x (first 1 b) 1) (h := by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) _ ?_ y
  simp only [kernelRun0_A.sl.r_3, kernelRun0_A.sl.r_4, kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, k0_pay9, k0_pay10, k0_pay11, k0_pay12, k0_pay13, k0_pay14, k0_pay15, k0_pay16, k0_pay17, k0_pay18,
    k0_pay19, k0_pay20, k0_pay21, k0_pay22, k0_pay23, load_unit, shapeCast_shapeCast]
  rfl

/-- The queries of group 1, stacked. -/
theorem q1 {arg : Memref sig .tc .vmem S1x2048x128 .f32} (h : arg.IsWhole) (x : S1x2048x128.Idx → Elt Ideal .f32) (y : S16x128x128.Idx) :
    kernelRun0_A.sl.r_92 (F := Ideal) c arg h x y = slab x (first 4 (y 0).val) 4 (ix3 0 (y 1) (y 2)) := by
  unfold kernelRun0_A.sl.r_92 k0_pay133
  refine stack_apply (m := 128) (k := 128) (fun b => slab x (first 4 b) 4) (h := by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) _ ?_ y
  simp only [kernelRun0_A.sl.r_81, kernelRun0_A.sl.r_82, kernelRun0_A.sl.r_83, kernelRun0_A.sl.r_84, kernelRun0_A.sl.r_85, kernelRun0_A.sl.r_86,
    kernelRun0_A.sl.r_87, kernelRun0_A.sl.r_88, kernelRun0_A.sl.r_89, kernelRun0_A.sl.r_90, kernelRun0_A.sl.r_91, k0_pay122, k0_pay123, k0_pay124,
    k0_pay125, k0_pay126, k0_pay127, k0_pay128, k0_pay129, k0_pay130, k0_pay131, k0_pay132, load_strided, shapeCast_shapeCast]
  rfl

/-- The queries of group 2, stacked. -/
theorem q2 {arg : Memref sig .tc .vmem S1x2048x128 .f32} (h : arg.IsWhole) (x : S1x2048x128.Idx → Elt Ideal .f32) (y : S16x128x128.Idx) :
    kernelRun0_A.sl.r_149 (F := Ideal) c arg h x y = slab x (first 16 (y 0).val) 16 (ix3 0 (y 1) (y 2)) := by
  unfold kernelRun0_A.sl.r_149 k0_pay227
  refine stack_apply (m := 128) (k := 128) (fun b => slab x (first 16 b) 16) (h := by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) _ ?_ y
  simp only [kernelRun0_A.sl.r_139, kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, k0_pay217, k0_pay218, k0_pay219, k0_pay220, k0_pay221,
    k0_pay222, k0_pay223, k0_pay224, k0_pay225, k0_pay226, load_strided, shapeCast_shapeCast]
  rfl

/-- The values of group 0, each block behind the one before it. -/
theorem v0 {arg : Memref sig .tc .vmem S1x2048x128 .f32} (h : arg.IsWhole) (x : S1x2048x128.Idx → Elt Ideal .f32) (y : S16x256x128.Idx) :
    kernelRun0_A.sl.r_67 (F := Ideal) c arg h x y
      = pairSlab x (first 1 (prev 1 (y 0).val)) (first 1 (y 0).val) 1 (ix3 0 (y 1) (y 2)) := by
  unfold kernelRun0_A.sl.r_67 k0_pay73
  refine stack_apply (m := 256) (k := 128) (fun b => pairSlab x (first 1 (prev 1 b)) (first 1 b) 1) (h := by exact concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0) _ ?_ y
  simp only [kernelRun0_A.sl.r_35, kernelRun0_A.sl.r_36, kernelRun0_A.sl.r_37, kernelRun0_A.sl.r_38, kernelRun0_A.sl.r_39, kernelRun0_A.sl.r_40,
    kernelRun0_A.sl.r_41, kernelRun0_A.sl.r_42, kernelRun0_A.sl.r_43, kernelRun0_A.sl.r_44, kernelRun0_A.sl.r_45, kernelRun0_A.sl.r_46,
    kernelRun0_A.sl.r_47, kernelRun0_A.sl.r_48, kernelRun0_A.sl.r_49, kernelRun0_A.sl.r_50, k0_pay41, k0_pay42, k0_pay43, k0_pay44, k0_pay45, k0_pay46,
    k0_pay47, k0_pay48, k0_pay49, k0_pay50, k0_pay51, k0_pay52, k0_pay53, k0_pay54, k0_pay55, k0_pay56, pair_eq, load_unit, pair_slab]
  rfl

/-- The keys of group 1, each block behind the one before it. -/
theorem k1 {arg : Memref sig .tc .vmem S1x2048x128 .f32} (h : arg.IsWhole) (x : S1x2048x128.Idx → Elt Ideal .f32) (y : S16x256x128.Idx) :
    kernelRun0_A.sl.r_132 (F := Ideal) c arg h x y
      = pairSlab x (first 4 (prev 4 (y 0).val)) (first 4 (y 0).val) 4 (ix3 0 (y 1) (y 2)) := by
  unfold kernelRun0_A.sl.r_132 k0_pay173
  refine stack_apply (m := 256) (k := 128) (fun b => pairSlab x (first 4 (prev 4 b)) (first 4 b) 4) (h := by exact concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0) _ ?_ y
  simp only [kernelRun0_A.sl.r_93, kernelRun0_A.sl.r_94, kernelRun0_A.sl.r_95, kernelRun0_A.sl.r_96, kernelRun0_A.sl.r_97, kernelRun0_A.sl.r_98,
    kernelRun0_A.sl.r_99, kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_125, kernelRun0_A.sl.r_126,
    kernelRun0_A.sl.r_127, kernelRun0_A.sl.r_128, kernelRun0_A.sl.r_129, kernelRun0_A.sl.r_130, kernelRun0_A.sl.r_131, k0_pay134, k0_pay135, k0_pay136,
    k0_pay137, k0_pay138, k0_pay139, k0_pay140, k0_pay141, k0_pay142, k0_pay143, k0_pay144, k0_pay145, k0_pay146, k0_pay147, k0_pay148, k0_pay149,
    k0_pay166, k0_pay167, k0_pay168, k0_pay169, k0_pay170, k0_pay171, k0_pay172, pair_eq, load_strided, pair_slab]
  rfl

/-- The values of group 1, each block behind the one before it. -/
theorem v1 {arg : Memref sig .tc .vmem S1x2048x128 .f32} (h : arg.IsWhole) (x : S1x2048x128.Idx → Elt Ideal .f32) (y : S16x256x128.Idx) :
    kernelRun0_A.sl.r_133 (F := Ideal) c arg h x y
      = pairSlab x (first 4 (prev 4 (y 0).val)) (first 4 (y 0).val) 4 (ix3 0 (y 1) (y 2)) := by
  unfold kernelRun0_A.sl.r_133 k0_pay174
  refine stack_apply (m := 256) (k := 128) (fun b => pairSlab x (first 4 (prev 4 b)) (first 4 b) 4) (h := by exact concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0) _ ?_ y
  simp only [kernelRun0_A.sl.r_109, kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119, kernelRun0_A.sl.r_120,
    kernelRun0_A.sl.r_121, kernelRun0_A.sl.r_122, kernelRun0_A.sl.r_123, kernelRun0_A.sl.r_124, k0_pay150, k0_pay151, k0_pay152, k0_pay153, k0_pay154,
    k0_pay155, k0_pay156, k0_pay157, k0_pay158, k0_pay159, k0_pay160, k0_pay161, k0_pay162, k0_pay163, k0_pay164, k0_pay165, pair_eq, load_strided, pair_slab]
  rfl

end Cert.Proof.Attn
-- ==== Proof.AttnScore.lean ====
/-
  The scores of the three dilation groups as the attention kernel computes them, and their exponentials.
-/
module

public import proofs.«01_k».proof.Proof.Gen.KernelIdeal.Value
public import Idealize.ShloMosaic.Lib.Pipeline.ValueKit
public import proofs.«01_k».proof.Proof.AttnMath
public import proofs.«01_k».proof.Proof.AttnStack
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- The scale of the scores, one over the root of the 128 lanes. -/
def scale : EReal := Ideal.ofBits .f32 0x3DB504F3#32

/-- The bias of a block's scores: the first `D` blocks have no block before them. -/
def bias (D : ℕ) (a1 : S128x128.Idx → EReal) (a2 : S128x256.Idx → EReal) (b : ℕ) (r : Fin 128) (j : Fin 256) : EReal :=
  if b < D then if h : j.val < 128 then Ideal.ofBits .f32 0xFF800000#32 else a1 (ix2 r ⟨j.val - 128, by omega⟩) else a2 (ix2 r j)

/-- The scores of a row of a block against the block before and its own. -/
def score (D : ℕ) (a1 : S128x128.Idx → EReal) (a2 : S128x256.Idx → EReal) (x2 x3 : S1x2048x128.Idx → EReal) (b : ℕ) (r : Fin 128)
    (j : Fin 256) : EReal :=
  (∑ k, slab x2 (first D b) D (ix3 0 r k) * pairSlab x3 (first D (prev D b)) (first D b) D (ix3 0 j k)) * scale + bias D a1 a2 b r j

/-- The scores of a row of a block against its own block alone. -/
def scoreOwn (D : ℕ) (a1 : S128x128.Idx → EReal) (x2 x3 : S1x2048x128.Idx → EReal) (b : ℕ) (r : Fin 128) (j : Fin 128) : EReal :=
  (∑ k, slab x2 (first D b) D (ix3 0 r k) * slab x3 (first D b) D (ix3 0 j k)) * scale + a1 (ix2 r j)

/-- The narrow pattern of minus infinity. -/
theorem minus_inf : Ideal.ofBits .f32 0xFF800000#32 = ⊥ := by
  simp [Ideal.ofBits, Ideal.ieee]

/-- The keys group 0 stacks. -/
def stack0 (c : Dev nD) (arg3 : Memref sig .tc .vmem S1x2048x128 .f32) (h3 : arg3.IsWhole) (x3 : S1x2048x128.Idx → Elt Ideal .f32) :
    List ((s : Shape) × (s.Idx → EReal)) :=
  [⟨S1x256x128, kernelRun0_A.sl.r_57 (F := Ideal) c arg3 h3 x3⟩, ⟨S1x256x128, kernelRun0_A.sl.r_58 (F := Ideal) c arg3 h3 x3⟩, ⟨S1x256x128,
    kernelRun0_A.sl.r_59 (F := Ideal) c arg3 h3 x3⟩, ⟨S1x256x128, kernelRun0_A.sl.r_60 (F := Ideal) c arg3 h3 x3⟩, ⟨S1x256x128,
    kernelRun0_A.sl.r_61 (F := Ideal) c arg3 h3 x3⟩, ⟨S1x256x128, kernelRun0_A.sl.r_62 (F := Ideal) c arg3 h3 x3⟩, ⟨S1x256x128,
    kernelRun0_A.sl.r_63 (F := Ideal) c arg3 h3 x3⟩, ⟨S1x256x128, kernelRun0_A.sl.r_64 (F := Ideal) c arg3 h3 x3⟩, ⟨S1x256x128,
    kernelRun0_A.sl.r_65 (F := Ideal) c arg3 h3 x3⟩, ⟨S1x256x128, kernelRun0_A.sl.r_66 (F := Ideal) c arg3 h3 x3⟩, ⟨S1x256x128, shapeCast
    S1x256x128 (kernelRun0_A.sl.r_51 (F := Ideal) c arg3 h3 x3) shapeCasts_S256x128_S1x256x128⟩, ⟨S1x256x128, shapeCast S1x256x128
    (kernelRun0_A.sl.r_52 (F := Ideal) c arg3 h3 x3) shapeCasts_S256x128_S1x256x128⟩, ⟨S1x256x128, shapeCast S1x256x128 (kernelRun0_A.sl.r_53 (F
    := Ideal) c arg3 h3 x3) shapeCasts_S256x128_S1x256x128⟩, ⟨S1x256x128, shapeCast S1x256x128 (kernelRun0_A.sl.r_54 (F := Ideal) c arg3 h3 x3)
    shapeCasts_S256x128_S1x256x128⟩, ⟨S1x256x128, shapeCast S1x256x128 (kernelRun0_A.sl.r_55 (F := Ideal) c arg3 h3 x3)
    shapeCasts_S256x128_S1x256x128⟩, ⟨S1x256x128, shapeCast S1x256x128 (kernelRun0_A.sl.r_56 (F := Ideal) c arg3 h3 x3)
    shapeCasts_S256x128_S1x256x128⟩]

/-- The keys group 0 stacks, by row. -/
theorem stack0_apply (c : Dev nD) {arg3 : Memref sig .tc .vmem S1x2048x128 .f32} (h3 : arg3.IsWhole) (x3 : S1x2048x128.Idx → Elt Ideal .f32)
    (z : S16x256x128.Idx) :
    concatenate S16x256x128 0 (stack0 c arg3 h3 x3)
      concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 z
      = (pairSlab x3 (first 1 (prev 1 (z 0).val)) (first 1 (z 0).val) 1) (ix3 0 (z 1) (z 2)) := by
  refine stack_apply (m := 256) (k := 128) (fun b => pairSlab x3 (first 1 (prev 1 b)) (first 1 b) 1)
    (h := by exact concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0) _ ?_ z
  simp only [stack0, kernelRun0_A.sl.r_19, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34, kernelRun0_A.sl.r_51, kernelRun0_A.sl.r_52,
    kernelRun0_A.sl.r_53, kernelRun0_A.sl.r_54, kernelRun0_A.sl.r_55, kernelRun0_A.sl.r_56, kernelRun0_A.sl.r_57, kernelRun0_A.sl.r_58,
    kernelRun0_A.sl.r_59, kernelRun0_A.sl.r_60, kernelRun0_A.sl.r_61, kernelRun0_A.sl.r_62, kernelRun0_A.sl.r_63, kernelRun0_A.sl.r_64,
    kernelRun0_A.sl.r_65, kernelRun0_A.sl.r_66, k0_pay25, k0_pay26, k0_pay27, k0_pay28, k0_pay29, k0_pay30, k0_pay31, k0_pay32, k0_pay33, k0_pay34,
    k0_pay35, k0_pay36, k0_pay37, k0_pay38, k0_pay39, k0_pay40, k0_pay57, k0_pay58, k0_pay59, k0_pay60, k0_pay61, k0_pay62, k0_pay63, k0_pay64,
    k0_pay65, k0_pay66, k0_pay67, k0_pay68, k0_pay69, k0_pay70, k0_pay71, k0_pay72, pair_eq, load_unit, pair_slab]
  rfl

/-- The keys group 2 stacks. -/
def stack2 (c : Dev nD) (arg3 : Memref sig .tc .vmem S1x2048x128 .f32) (h3 : arg3.IsWhole) (x3 : S1x2048x128.Idx → Elt Ideal .f32) :
    List ((s : Shape) × (s.Idx → EReal)) :=
  [⟨S1x128x128, kernelRun0_A.sl.r_182 (F := Ideal) c arg3 h3 x3⟩, ⟨S1x128x128, kernelRun0_A.sl.r_183 (F := Ideal) c arg3 h3 x3⟩, ⟨S1x128x128,
    shapeCast S1x128x128 (kernelRun0_A.sl.r_152 (F := Ideal) c arg3 h3 x3) shapeCasts_S128x128_S1x128x128⟩, ⟨S1x128x128, shapeCast S1x128x128
    (kernelRun0_A.sl.r_153 (F := Ideal) c arg3 h3 x3) shapeCasts_S128x128_S1x128x128⟩, ⟨S1x128x128, shapeCast S1x128x128 (kernelRun0_A.sl.r_154
    (F := Ideal) c arg3 h3 x3) shapeCasts_S128x128_S1x128x128⟩, ⟨S1x128x128, shapeCast S1x128x128 (kernelRun0_A.sl.r_155 (F := Ideal) c arg3 h3
    x3) shapeCasts_S128x128_S1x128x128⟩, ⟨S1x128x128, shapeCast S1x128x128 (kernelRun0_A.sl.r_156 (F := Ideal) c arg3 h3 x3)
    shapeCasts_S128x128_S1x128x128⟩, ⟨S1x128x128, shapeCast S1x128x128 (kernelRun0_A.sl.r_157 (F := Ideal) c arg3 h3 x3)
    shapeCasts_S128x128_S1x128x128⟩, ⟨S1x128x128, shapeCast S1x128x128 (kernelRun0_A.sl.r_158 (F := Ideal) c arg3 h3 x3)
    shapeCasts_S128x128_S1x128x128⟩, ⟨S1x128x128, shapeCast S1x128x128 (kernelRun0_A.sl.r_159 (F := Ideal) c arg3 h3 x3)
    shapeCasts_S128x128_S1x128x128⟩, ⟨S1x128x128, shapeCast S1x128x128 (kernelRun0_A.sl.r_160 (F := Ideal) c arg3 h3 x3)
    shapeCasts_S128x128_S1x128x128⟩, ⟨S1x128x128, shapeCast S1x128x128 (kernelRun0_A.sl.r_161 (F := Ideal) c arg3 h3 x3)
    shapeCasts_S128x128_S1x128x128⟩, ⟨S1x128x128, shapeCast S1x128x128 (kernelRun0_A.sl.r_162 (F := Ideal) c arg3 h3 x3)
    shapeCasts_S128x128_S1x128x128⟩, ⟨S1x128x128, shapeCast S1x128x128 (kernelRun0_A.sl.r_163 (F := Ideal) c arg3 h3 x3)
    shapeCasts_S128x128_S1x128x128⟩, ⟨S1x128x128, shapeCast S1x128x128 (kernelRun0_A.sl.r_164 (F := Ideal) c arg3 h3 x3)
    shapeCasts_S128x128_S1x128x128⟩, ⟨S1x128x128, shapeCast S1x128x128 (kernelRun0_A.sl.r_165 (F := Ideal) c arg3 h3 x3)
    shapeCasts_S128x128_S1x128x128⟩]

/-- The keys group 2 stacks, by row. -/
theorem stack2_apply (c : Dev nD) {arg3 : Memref sig .tc .vmem S1x2048x128 .f32} (h3 : arg3.IsWhole) (x3 : S1x2048x128.Idx → Elt Ideal .f32)
    (z : S16x128x128.Idx) :
    concatenate S16x128x128 0 (stack2 c arg3 h3 x3)
      concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0 z
      = (slab x3 (first 16 (z 0).val) 16) (ix3 0 (z 1) (z 2)) := by
  refine stack_apply (m := 128) (k := 128) (fun b => slab x3 (first 16 b) 16)
    (h := by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) _ ?_ z
  simp only [stack2, kernelRun0_A.sl.r_150, kernelRun0_A.sl.r_151, kernelRun0_A.sl.r_152, kernelRun0_A.sl.r_153, kernelRun0_A.sl.r_154, kernelRun0_A.sl.r_155,
    kernelRun0_A.sl.r_156, kernelRun0_A.sl.r_157, kernelRun0_A.sl.r_158, kernelRun0_A.sl.r_159, kernelRun0_A.sl.r_160, kernelRun0_A.sl.r_161,
    kernelRun0_A.sl.r_162, kernelRun0_A.sl.r_163, kernelRun0_A.sl.r_164, kernelRun0_A.sl.r_165, kernelRun0_A.sl.r_182, kernelRun0_A.sl.r_183, k0_pay228,
    k0_pay229, k0_pay230, k0_pay231, k0_pay232, k0_pay233, k0_pay234, k0_pay235, k0_pay236, k0_pay237, k0_pay238, k0_pay239, k0_pay240, k0_pay241,
    k0_pay242, k0_pay243, k0_pay260, k0_pay261, trunc_eq, load_strided]
  rfl

/-- The values group 2 stacks. -/
def stack2v (c : Dev nD) (arg3 : Memref sig .tc .vmem S1x2048x128 .f32) (h3 : arg3.IsWhole) (x3 : S1x2048x128.Idx → Elt Ideal .f32) :
    List ((s : Shape) × (s.Idx → EReal)) :=
  [⟨S1x128x128, shapeCast S1x128x128 (kernelRun0_A.sl.r_166 (F := Ideal) c arg3 h3 x3) shapeCasts_S128x128_S1x128x128⟩, ⟨S1x128x128, shapeCast
    S1x128x128 (kernelRun0_A.sl.r_167 (F := Ideal) c arg3 h3 x3) shapeCasts_S128x128_S1x128x128⟩, ⟨S1x128x128, shapeCast S1x128x128
    (kernelRun0_A.sl.r_168 (F := Ideal) c arg3 h3 x3) shapeCasts_S128x128_S1x128x128⟩, ⟨S1x128x128, shapeCast S1x128x128 (kernelRun0_A.sl.r_169
    (F := Ideal) c arg3 h3 x3) shapeCasts_S128x128_S1x128x128⟩, ⟨S1x128x128, shapeCast S1x128x128 (kernelRun0_A.sl.r_170 (F := Ideal) c arg3 h3
    x3) shapeCasts_S128x128_S1x128x128⟩, ⟨S1x128x128, shapeCast S1x128x128 (kernelRun0_A.sl.r_171 (F := Ideal) c arg3 h3 x3)
    shapeCasts_S128x128_S1x128x128⟩, ⟨S1x128x128, shapeCast S1x128x128 (kernelRun0_A.sl.r_172 (F := Ideal) c arg3 h3 x3)
    shapeCasts_S128x128_S1x128x128⟩, ⟨S1x128x128, shapeCast S1x128x128 (kernelRun0_A.sl.r_173 (F := Ideal) c arg3 h3 x3)
    shapeCasts_S128x128_S1x128x128⟩, ⟨S1x128x128, shapeCast S1x128x128 (kernelRun0_A.sl.r_174 (F := Ideal) c arg3 h3 x3)
    shapeCasts_S128x128_S1x128x128⟩, ⟨S1x128x128, shapeCast S1x128x128 (kernelRun0_A.sl.r_175 (F := Ideal) c arg3 h3 x3)
    shapeCasts_S128x128_S1x128x128⟩, ⟨S1x128x128, shapeCast S1x128x128 (kernelRun0_A.sl.r_176 (F := Ideal) c arg3 h3 x3)
    shapeCasts_S128x128_S1x128x128⟩, ⟨S1x128x128, shapeCast S1x128x128 (kernelRun0_A.sl.r_177 (F := Ideal) c arg3 h3 x3)
    shapeCasts_S128x128_S1x128x128⟩, ⟨S1x128x128, shapeCast S1x128x128 (kernelRun0_A.sl.r_178 (F := Ideal) c arg3 h3 x3)
    shapeCasts_S128x128_S1x128x128⟩, ⟨S1x128x128, shapeCast S1x128x128 (kernelRun0_A.sl.r_179 (F := Ideal) c arg3 h3 x3)
    shapeCasts_S128x128_S1x128x128⟩, ⟨S1x128x128, shapeCast S1x128x128 (kernelRun0_A.sl.r_180 (F := Ideal) c arg3 h3 x3)
    shapeCasts_S128x128_S1x128x128⟩, ⟨S1x128x128, shapeCast S1x128x128 (kernelRun0_A.sl.r_181 (F := Ideal) c arg3 h3 x3)
    shapeCasts_S128x128_S1x128x128⟩]

/-- The values group 2 stacks, by row. -/
theorem stack2v_apply (c : Dev nD) {arg3 : Memref sig .tc .vmem S1x2048x128 .f32} (h3 : arg3.IsWhole) (x3 : S1x2048x128.Idx → Elt Ideal .f32)
    (z : S16x128x128.Idx) :
    concatenate S16x128x128 0 (stack2v c arg3 h3 x3)
      concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0 z
      = (slab x3 (first 16 (z 0).val) 16) (ix3 0 (z 1) (z 2)) := by
  refine stack_apply (m := 128) (k := 128) (fun b => slab x3 (first 16 b) 16)
    (h := by exact concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) _ ?_ z
  simp only [stack2v, kernelRun0_A.sl.r_166, kernelRun0_A.sl.r_167, kernelRun0_A.sl.r_168, kernelRun0_A.sl.r_169, kernelRun0_A.sl.r_170, kernelRun0_A.sl.r_171,
    kernelRun0_A.sl.r_172, kernelRun0_A.sl.r_173, kernelRun0_A.sl.r_174, kernelRun0_A.sl.r_175, kernelRun0_A.sl.r_176, kernelRun0_A.sl.r_177,
    kernelRun0_A.sl.r_178, kernelRun0_A.sl.r_179, kernelRun0_A.sl.r_180, kernelRun0_A.sl.r_181, k0_pay244, k0_pay245, k0_pay246, k0_pay247, k0_pay248,
    k0_pay249, k0_pay250, k0_pay251, k0_pay252, k0_pay253, k0_pay254, k0_pay255, k0_pay256, k0_pay257, k0_pay258, k0_pay259, trunc_eq, load_strided]
  rfl

variable (c : Dev nD) {arg2 arg3 arg4 : Memref sig .tc .vmem S1x2048x128 .f32} (h2 : arg2.IsWhole) (h3 : arg3.IsWhole) (h4 : arg4.IsWhole)
  (x2 x3 x4 : S1x2048x128.Idx → Elt Ideal .f32) (a1 : S128x128.Idx → EReal) (a2 : S128x256.Idx → EReal)

/-- The scores of group 0. -/
theorem s0 (y : S16x128x256.Idx) :
    k0_pay74 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3) y
      = score 1 a1 a2 x2 x3 (y 0).val (y 1) (y 2) := by
  unfold k0_pay74
  have hk := fun z => stack0_apply c h3 x3 z
  unfold stack0 at hk
  generalize hK : concatenate S16x256x128 0 _ _ = K
  rw [hK] at hk
  generalize hQ : kernelRun0_A.sl.r_18 (F := Ideal) c arg2 h2 x2 = Q
  have hq := fun z => q0 c h2 x2 z
  rw [hQ] at hq
  pointwise []
  simp only [hk, hq]
  rfl

/-- The scores of group 1. -/
theorem s1 (y : S16x128x256.Idx) :
    k0_pay175 (F := Ideal) a1 a2 (kernelRun0_A.sl.r_92 (F := Ideal) c arg2 h2 x2) (kernelRun0_A.sl.r_132 (F := Ideal) c arg3 h3 x3) (Scalar.ofBits .f32 0xFF800000#32) y
      = score 4 a1 a2 x2 x3 (y 0).val (y 1) (y 2) := by
  have hk := fun z => k1 c h3 x3 z
  generalize hK : kernelRun0_A.sl.r_132 (F := Ideal) c arg3 h3 x3 = K
  rw [hK] at hk
  generalize hQ : kernelRun0_A.sl.r_92 (F := Ideal) c arg2 h2 x2 = Q
  have hq := fun z => q1 c h2 x2 z
  rw [hQ] at hq
  pointwise [k0_pay175]
  simp only [hk, hq]
  rfl

/-- The scores of group 2. -/
theorem s2 (y : S16x128x128.Idx) :
    k0_pay262 (F := Ideal) a1 (kernelRun0_A.sl.r_149 (F := Ideal) c arg2 h2 x2)
      (kernelRun0_A.sl.r_152 (F := Ideal) c arg3 h3 x3) (kernelRun0_A.sl.r_153 (F := Ideal) c arg3 h3 x3) (kernelRun0_A.sl.r_154 (F := Ideal) c
    arg3 h3 x3) (kernelRun0_A.sl.r_155 (F := Ideal) c arg3 h3 x3) (kernelRun0_A.sl.r_156 (F := Ideal) c arg3 h3 x3) (kernelRun0_A.sl.r_157 (F :=
    Ideal) c arg3 h3 x3) (kernelRun0_A.sl.r_158 (F := Ideal) c arg3 h3 x3) (kernelRun0_A.sl.r_159 (F := Ideal) c arg3 h3 x3)
    (kernelRun0_A.sl.r_160 (F := Ideal) c arg3 h3 x3) (kernelRun0_A.sl.r_161 (F := Ideal) c arg3 h3 x3) (kernelRun0_A.sl.r_162 (F := Ideal) c
    arg3 h3 x3) (kernelRun0_A.sl.r_163 (F := Ideal) c arg3 h3 x3) (kernelRun0_A.sl.r_164 (F := Ideal) c arg3 h3 x3) (kernelRun0_A.sl.r_165 (F :=
    Ideal) c arg3 h3 x3)
      (kernelRun0_A.sl.r_182 (F := Ideal) c arg3 h3 x3) (kernelRun0_A.sl.r_183 (F := Ideal) c arg3 h3 x3) y
      = scoreOwn 16 a1 x2 x3 (y 0).val (y 1) (y 2) := by
  unfold k0_pay262
  have hk := fun z => stack2_apply c h3 x3 z
  unfold stack2 at hk
  generalize hK : concatenate S16x128x128 0 _ _ = K
  rw [hK] at hk
  generalize hQ : kernelRun0_A.sl.r_149 (F := Ideal) c arg2 h2 x2 = Q
  have hq := fun z => q2 c h2 x2 z
  rw [hQ] at hq
  pointwise []
  simp only [hk, hq]
  rfl

/-- The exponentials of group 0. -/
theorem p0 (y : S16x128x256.Idx) :
    k0_pay76 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3) y
      = Ideal.exp (score 1 a1 a2 x2 x3 (y 0).val (y 1) (y 2) - top (score 1 a1 a2 x2 x3 (y 0).val (y 1))) := by
  have hs := fun z => s0 c h2 h3 x2 x3 a1 a2 z
  unfold k0_pay76 k0_pay75
  generalize hS : k0_pay74 (F := Ideal) _ _ _ _ _ _ _ _ _ _ _ _ _ _ _ _ _ _ _ = S
  rw [hS] at hs
  pointwise []
  simp only [hs, minus_inf]
  rfl

/-- The exponentials of group 1. -/
theorem p1 (y : S16x128x256.Idx) :
    k0_pay177 (F := Ideal) a1 a2 (kernelRun0_A.sl.r_92 (F := Ideal) c arg2 h2 x2) (kernelRun0_A.sl.r_132 (F := Ideal) c arg3 h3 x3) (Scalar.ofBits .f32 0xFF800000#32) y
      = Ideal.exp (score 4 a1 a2 x2 x3 (y 0).val (y 1) (y 2) - top (score 4 a1 a2 x2 x3 (y 0).val (y 1))) := by
  have hs := fun z => s1 c h2 h3 x2 x3 a1 a2 z
  unfold k0_pay177 k0_pay176
  generalize hS : k0_pay175 (F := Ideal) _ _ _ _ _ = S
  rw [hS] at hs
  pointwise []
  simp only [hs, minus_inf]
  rfl

/-- The exponentials of group 2. -/
theorem p2 (y : S16x128x128.Idx) :
    k0_pay264 (F := Ideal) a1 (kernelRun0_A.sl.r_149 (F := Ideal) c arg2 h2 x2)
      (kernelRun0_A.sl.r_152 (F := Ideal) c arg3 h3 x3) (kernelRun0_A.sl.r_153 (F := Ideal) c arg3 h3 x3) (kernelRun0_A.sl.r_154 (F := Ideal) c
    arg3 h3 x3) (kernelRun0_A.sl.r_155 (F := Ideal) c arg3 h3 x3) (kernelRun0_A.sl.r_156 (F := Ideal) c arg3 h3 x3) (kernelRun0_A.sl.r_157 (F :=
    Ideal) c arg3 h3 x3) (kernelRun0_A.sl.r_158 (F := Ideal) c arg3 h3 x3) (kernelRun0_A.sl.r_159 (F := Ideal) c arg3 h3 x3)
    (kernelRun0_A.sl.r_160 (F := Ideal) c arg3 h3 x3) (kernelRun0_A.sl.r_161 (F := Ideal) c arg3 h3 x3) (kernelRun0_A.sl.r_162 (F := Ideal) c
    arg3 h3 x3) (kernelRun0_A.sl.r_163 (F := Ideal) c arg3 h3 x3) (kernelRun0_A.sl.r_164 (F := Ideal) c arg3 h3 x3) (kernelRun0_A.sl.r_165 (F :=
    Ideal) c arg3 h3 x3)
      (kernelRun0_A.sl.r_182 (F := Ideal) c arg3 h3 x3) (kernelRun0_A.sl.r_183 (F := Ideal) c arg3 h3 x3) y
      = Ideal.exp (scoreOwn 16 a1 x2 x3 (y 0).val (y 1) (y 2) - top (scoreOwn 16 a1 x2 x3 (y 0).val (y 1))) := by
  have hs := fun z => s2 c h2 h3 x2 x3 a1 z
  unfold k0_pay264 k0_pay263
  generalize hS : k0_pay262 (F := Ideal) _ _ _ _ _ _ _ _ _ _ _ _ _ _ _ _ _ _ = S
  rw [hS] at hs
  pointwise []
  simp only [hs, minus_inf]
  rfl

end Cert.Proof.Attn
-- ==== Proof.AttnOut.lean ====
/-
  The results and the log-sums of the three dilation groups as the attention kernel computes them.
-/
module

public import proofs.«01_k».proof.Proof.Gen.KernelIdeal.Value
public import Idealize.ShloMosaic.Lib.Pipeline.ValueKit
public import proofs.«01_k».proof.Proof.AttnScore
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- One lane of a row's result in a group that looks at the block before and its own. -/
def rowOut (D : ℕ) (a1 : S128x128.Idx → EReal) (a2 : S128x256.Idx → EReal) (x2 x3 x4 : S1x2048x128.Idx → EReal) (b : ℕ) (r d : Fin 128) : EReal :=
  mean (score D a1 a2 x2 x3 b r) fun j => pairSlab x4 (first D (prev D b)) (first D b) D (ix3 0 j d)

/-- One lane of a row's result in the group that looks at its own block alone. -/
def ownOut (D : ℕ) (a1 : S128x128.Idx → EReal) (x2 x3 x4 : S1x2048x128.Idx → EReal) (b : ℕ) (r d : Fin 128) : EReal :=
  mean (scoreOwn D a1 x2 x3 b r) fun j => slab x4 (first D b) D (ix3 0 j d)

variable (c : Dev nD) {arg2 arg3 arg4 : Memref sig .tc .vmem S1x2048x128 .f32} (h2 : arg2.IsWhole) (h3 : arg3.IsWhole) (h4 : arg4.IsWhole)
  (x2 x3 x4 : S1x2048x128.Idx → Elt Ideal .f32) (a1 : S128x128.Idx → EReal) (a2 : S128x256.Idx → EReal)

/-- The greatest scores of group 0. -/
theorem m0 (y : S16x128x1.Idx) :
    k0_pay75 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3) y = top (score 1 a1 a2 x2 x3 (y 0).val (y 1)) := by
  have hs := fun z => s0 c h2 h3 x2 x3 a1 a2 z
  unfold k0_pay75
  generalize hS : k0_pay74 (F := Ideal) _ _ _ _ _ _ _ _ _ _ _ _ _ _ _ _ _ _ _ = S
  rw [hS] at hs
  pointwise []
  simp only [hs, minus_inf]
  rfl

/-- The greatest scores of group 1. -/
theorem m1 (y : S16x128x1.Idx) :
    k0_pay176 (F := Ideal) a1 a2 (kernelRun0_A.sl.r_92 (F := Ideal) c arg2 h2 x2) (kernelRun0_A.sl.r_132 (F := Ideal) c arg3 h3 x3) (Scalar.ofBits .f32 0xFF800000#32) y = top (score 4 a1 a2 x2 x3 (y 0).val (y 1)) := by
  have hs := fun z => s1 c h2 h3 x2 x3 a1 a2 z
  unfold k0_pay176
  generalize hS : k0_pay175 (F := Ideal) _ _ _ _ _ = S
  rw [hS] at hs
  pointwise []
  simp only [hs, minus_inf]
  rfl

/-- The greatest scores of group 2. -/
theorem m2 (y : S16x128x1.Idx) :
    k0_pay263 (F := Ideal) a1 (kernelRun0_A.sl.r_149 (F := Ideal) c arg2 h2 x2)
      (kernelRun0_A.sl.r_152 (F := Ideal) c arg3 h3 x3) (kernelRun0_A.sl.r_153 (F := Ideal) c arg3 h3 x3) (kernelRun0_A.sl.r_154 (F := Ideal) c
    arg3 h3 x3) (kernelRun0_A.sl.r_155 (F := Ideal) c arg3 h3 x3) (kernelRun0_A.sl.r_156 (F := Ideal) c arg3 h3 x3) (kernelRun0_A.sl.r_157 (F :=
    Ideal) c arg3 h3 x3) (kernelRun0_A.sl.r_158 (F := Ideal) c arg3 h3 x3) (kernelRun0_A.sl.r_159 (F := Ideal) c arg3 h3 x3)
    (kernelRun0_A.sl.r_160 (F := Ideal) c arg3 h3 x3) (kernelRun0_A.sl.r_161 (F := Ideal) c arg3 h3 x3) (kernelRun0_A.sl.r_162 (F := Ideal) c
    arg3 h3 x3) (kernelRun0_A.sl.r_163 (F := Ideal) c arg3 h3 x3) (kernelRun0_A.sl.r_164 (F := Ideal) c arg3 h3 x3) (kernelRun0_A.sl.r_165 (F :=
    Ideal) c arg3 h3 x3)
      (kernelRun0_A.sl.r_182 (F := Ideal) c arg3 h3 x3) (kernelRun0_A.sl.r_183 (F := Ideal) c arg3 h3 x3) y = top (scoreOwn 16 a1 x2 x3 (y 0).val (y 1)) := by
  have hs := fun z => s2 c h2 h3 x2 x3 a1 z
  unfold k0_pay263
  generalize hS : k0_pay262 (F := Ideal) _ _ _ _ _ _ _ _ _ _ _ _ _ _ _ _ _ _ = S
  rw [hS] at hs
  pointwise []
  simp only [hs, minus_inf]
  rfl

/-- The results of group 0. -/
theorem o0 (y : S16x128x128.Idx) :
    k0_pay78 (F := Ideal) (kernelRun0_A.sl.r_67 (F := Ideal) c arg4 h4 x4) (k0_pay76 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3)) y = rowOut 1 a1 a2 x2 x3 x4 (y 0).val (y 1) (y 2) := by
  have hp := fun z => p0 c h2 h3 x2 x3 a1 a2 z
  generalize hP : k0_pay76 (F := Ideal) _ _ _ _ _ _ _ _ _ _ _ _ _ _ _ _ _ _ _ = P
  rw [hP] at hp
  have hv := fun z => v0 c h4 x4 z
  generalize hV : kernelRun0_A.sl.r_67 (F := Ideal) c arg4 h4 x4 = V
  rw [hV] at hv
  pointwise [k0_pay78, k0_pay77]
  simp only [hp, hv]
  rfl

/-- The log-sums of group 0. -/
theorem l0 (y : S16x128x1.Idx) :
    k0_pay79 (F := Ideal) (k0_pay75 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3)) (k0_pay76 (F := Ideal) a1 a2 (kernelRun0_A.sl.r_18 (F := Ideal) c arg2 h2 x2)
      (kernelRun0_A.sl.r_51 (F := Ideal) c arg3 h3 x3) (kernelRun0_A.sl.r_52 (F := Ideal) c arg3 h3 x3) (kernelRun0_A.sl.r_53 (F := Ideal) c arg3
    h3 x3) (kernelRun0_A.sl.r_54 (F := Ideal) c arg3 h3 x3) (kernelRun0_A.sl.r_55 (F := Ideal) c arg3 h3 x3) (kernelRun0_A.sl.r_56 (F := Ideal)
    c arg3 h3 x3) (kernelRun0_A.sl.r_57 (F := Ideal) c arg3 h3 x3) (kernelRun0_A.sl.r_58 (F := Ideal) c arg3 h3 x3) (kernelRun0_A.sl.r_59 (F :=
    Ideal) c arg3 h3 x3) (kernelRun0_A.sl.r_60 (F := Ideal) c arg3 h3 x3) (kernelRun0_A.sl.r_61 (F := Ideal) c arg3 h3 x3) (kernelRun0_A.sl.r_62
    (F := Ideal) c arg3 h3 x3) (kernelRun0_A.sl.r_63 (F := Ideal) c arg3 h3 x3) (kernelRun0_A.sl.r_64 (F := Ideal) c arg3 h3 x3)
    (kernelRun0_A.sl.r_65 (F := Ideal) c arg3 h3 x3) (kernelRun0_A.sl.r_66 (F := Ideal) c arg3 h3 x3)) y = lse (score 1 a1 a2 x2 x3 (y 0).val (y 1)) := by
  have hp := fun z => p0 c h2 h3 x2 x3 a1 a2 z
  generalize hP : k0_pay76 (F := Ideal) _ _ _ _ _ _ _ _ _ _ _ _ _ _ _ _ _ _ _ = P
  rw [hP] at hp
  have hm := fun z => m0 c h2 h3 x2 x3 a1 a2 z
  generalize hM : k0_pay75 (F := Ideal) _ _ _ _ _ _ _ _ _ _ _ _ _ _ _ _ _ _ _ = M
  rw [hM] at hm
  pointwise [k0_pay79, k0_pay77]
  simp only [hp, hm]
  rfl

/-- The results of group 1. -/
theorem o1 (y : S16x128x128.Idx) :
    k0_pay179 (F := Ideal) a1 a2 (kernelRun0_A.sl.r_92 (F := Ideal) c arg2 h2 x2) (kernelRun0_A.sl.r_132 (F := Ideal) c arg3 h3 x3) (kernelRun0_A.sl.r_133 (F := Ideal) c arg4 h4 x4) (Scalar.ofBits .f32 0xFF800000#32) y = rowOut 4 a1 a2 x2 x3 x4 (y 0).val (y 1) (y 2) := by
  have hp := fun z => p1 c h2 h3 x2 x3 a1 a2 z
  have hv := fun z => v1 c h4 x4 z
  generalize hV : kernelRun0_A.sl.r_133 (F := Ideal) c arg4 h4 x4 = V
  rw [hV] at hv
  unfold k0_pay179 k0_pay178
  generalize hP : k0_pay177 (F := Ideal) _ _ _ _ _ = P
  rw [hP] at hp
  pointwise []
  simp only [hp, hv]
  rfl

/-- The log-sums of group 1. -/
theorem l1 (y : S16x128x1.Idx) :
    k0_pay180 (F := Ideal) a1 a2 (kernelRun0_A.sl.r_92 (F := Ideal) c arg2 h2 x2) (kernelRun0_A.sl.r_132 (F := Ideal) c arg3 h3 x3) (Scalar.ofBits .f32 0xFF800000#32) y = lse (score 4 a1 a2 x2 x3 (y 0).val (y 1)) := by
  have hp := fun z => p1 c h2 h3 x2 x3 a1 a2 z
  have hm := fun z => m1 c h2 h3 x2 x3 a1 a2 z
  unfold k0_pay180 k0_pay178
  generalize hP : k0_pay177 (F := Ideal) _ _ _ _ _ = P
  generalize hM : k0_pay176 (F := Ideal) _ _ _ _ _ = M
  rw [hP] at hp
  rw [hM] at hm
  pointwise []
  simp only [hp, hm]
  rfl

/-- The results of group 2. -/
theorem o2 (y : S16x128x128.Idx) :
    k0_pay266 (F := Ideal) a1 (kernelRun0_A.sl.r_149 (F := Ideal) c arg2 h2 x2)
      (kernelRun0_A.sl.r_152 (F := Ideal) c arg3 h3 x3) (kernelRun0_A.sl.r_153 (F := Ideal) c arg3 h3 x3) (kernelRun0_A.sl.r_154 (F := Ideal) c
    arg3 h3 x3) (kernelRun0_A.sl.r_155 (F := Ideal) c arg3 h3 x3) (kernelRun0_A.sl.r_156 (F := Ideal) c arg3 h3 x3) (kernelRun0_A.sl.r_157 (F :=
    Ideal) c arg3 h3 x3) (kernelRun0_A.sl.r_158 (F := Ideal) c arg3 h3 x3) (kernelRun0_A.sl.r_159 (F := Ideal) c arg3 h3 x3)
    (kernelRun0_A.sl.r_160 (F := Ideal) c arg3 h3 x3) (kernelRun0_A.sl.r_161 (F := Ideal) c arg3 h3 x3) (kernelRun0_A.sl.r_162 (F := Ideal) c
    arg3 h3 x3) (kernelRun0_A.sl.r_163 (F := Ideal) c arg3 h3 x3) (kernelRun0_A.sl.r_164 (F := Ideal) c arg3 h3 x3) (kernelRun0_A.sl.r_165 (F :=
    Ideal) c arg3 h3 x3)
      (kernelRun0_A.sl.r_166 (F := Ideal) c arg4 h4 x4) (kernelRun0_A.sl.r_167 (F := Ideal) c arg4 h4 x4) (kernelRun0_A.sl.r_168 (F := Ideal) c
    arg4 h4 x4) (kernelRun0_A.sl.r_169 (F := Ideal) c arg4 h4 x4) (kernelRun0_A.sl.r_170 (F := Ideal) c arg4 h4 x4) (kernelRun0_A.sl.r_171 (F :=
    Ideal) c arg4 h4 x4) (kernelRun0_A.sl.r_172 (F := Ideal) c arg4 h4 x4) (kernelRun0_A.sl.r_173 (F := Ideal) c arg4 h4 x4)
    (kernelRun0_A.sl.r_174 (F := Ideal) c arg4 h4 x4) (kernelRun0_A.sl.r_175 (F := Ideal) c arg4 h4 x4) (kernelRun0_A.sl.r_176 (F := Ideal) c
    arg4 h4 x4) (kernelRun0_A.sl.r_177 (F := Ideal) c arg4 h4 x4) (kernelRun0_A.sl.r_178 (F := Ideal) c arg4 h4 x4) (kernelRun0_A.sl.r_179 (F :=
    Ideal) c arg4 h4 x4) (kernelRun0_A.sl.r_180 (F := Ideal) c arg4 h4 x4) (kernelRun0_A.sl.r_181 (F := Ideal) c arg4 h4 x4)
      (kernelRun0_A.sl.r_182 (F := Ideal) c arg3 h3 x3) (kernelRun0_A.sl.r_183 (F := Ideal) c arg3 h3 x3) y = ownOut 16 a1 x2 x3 x4 (y 0).val (y 1) (y 2) := by
  have hp := fun z => p2 c h2 h3 x2 x3 a1 z
  have hv := fun z => stack2v_apply c h4 x4 z
  unfold k0_pay266 k0_pay265
  unfold stack2v at hv
  generalize hV : concatenate S16x128x128 0 _ _ = V
  rw [hV] at hv
  generalize hP : k0_pay264 (F := Ideal) _ _ _ _ _ _ _ _ _ _ _ _ _ _ _ _ _ _ = P
  rw [hP] at hp
  pointwise []
  simp only [hp, hv]
  rfl

/-- The log-sums of group 2. -/
theorem l2 (y : S16x128x1.Idx) :
    k0_pay267 (F := Ideal) a1 (kernelRun0_A.sl.r_149 (F := Ideal) c arg2 h2 x2)
      (kernelRun0_A.sl.r_152 (F := Ideal) c arg3 h3 x3) (kernelRun0_A.sl.r_153 (F := Ideal) c arg3 h3 x3) (kernelRun0_A.sl.r_154 (F := Ideal) c
    arg3 h3 x3) (kernelRun0_A.sl.r_155 (F := Ideal) c arg3 h3 x3) (kernelRun0_A.sl.r_156 (F := Ideal) c arg3 h3 x3) (kernelRun0_A.sl.r_157 (F :=
    Ideal) c arg3 h3 x3) (kernelRun0_A.sl.r_158 (F := Ideal) c arg3 h3 x3) (kernelRun0_A.sl.r_159 (F := Ideal) c arg3 h3 x3)
    (kernelRun0_A.sl.r_160 (F := Ideal) c arg3 h3 x3) (kernelRun0_A.sl.r_161 (F := Ideal) c arg3 h3 x3) (kernelRun0_A.sl.r_162 (F := Ideal) c
    arg3 h3 x3) (kernelRun0_A.sl.r_163 (F := Ideal) c arg3 h3 x3) (kernelRun0_A.sl.r_164 (F := Ideal) c arg3 h3 x3) (kernelRun0_A.sl.r_165 (F :=
    Ideal) c arg3 h3 x3)
      (kernelRun0_A.sl.r_182 (F := Ideal) c arg3 h3 x3) (kernelRun0_A.sl.r_183 (F := Ideal) c arg3 h3 x3) y = lse (scoreOwn 16 a1 x2 x3 (y 0).val (y 1)) := by
  have hp := fun z => p2 c h2 h3 x2 x3 a1 z
  have hm := fun z => m2 c h2 h3 x2 x3 a1 z
  unfold k0_pay267 k0_pay265
  generalize hP : k0_pay264 (F := Ideal) _ _ _ _ _ _ _ _ _ _ _ _ _ _ _ _ _ _ = P
  generalize hM : k0_pay263 (F := Ideal) _ _ _ _ _ _ _ _ _ _ _ _ _ _ _ _ _ _ = M
  rw [hP] at hp
  rw [hM] at hm
  pointwise []
  simp only [hp, hm]
  rfl

end Cert.Proof.Attn
-- ==== Proof.AttnLayout.lean ====
/-
  How the attention kernel lays the blocks of its three groups out by row in its two scratch buffers.
-/
module

public import proofs.«01_k».proof.Proof.Gen.KernelIdeal.Value
public import Idealize.ShloMosaic.Lib.Pipeline.ValueKit
public import proofs.«01_k».proof.Proof.AttnOut
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- The block, of a group of dilation `D`, that row `n` belongs to. -/
def blk (D n : ℕ) : ℕ := n / D / 128 * D + n % D

/-- The place of row `n` within its block. -/
def row (D n : ℕ) : Fin 128 := ⟨n / D % 128, Nat.mod_lt _ (by decide)⟩

/-- Row `r` of block `b` is row `r` of block `b`. -/
theorem blk_row {D b n : ℕ} (hD : 0 < D) (r : Fin 128) (hn : n = first D b + D * r.val) : blk D n = b ∧ row D n = r := by
  have h1 : n % D = b % D := by
    rw [hn, first, show b % D + 128 * D * (b / D) + D * r.val = b % D + D * (128 * (b / D) + r.val) by ring, Nat.add_mul_mod_self_left, Nat.mod_mod]
  have h2 : n / D = 128 * (b / D) + r.val := by
    rw [hn, first, show b % D + 128 * D * (b / D) + D * r.val = b % D + D * (128 * (b / D) + r.val) by ring,
      Nat.add_mul_div_left _ _ hD, Nat.div_eq_of_lt (Nat.mod_lt _ hD), Nat.zero_add]
  have hr := r.isLt
  constructor
  · unfold blk
    rw [h1, h2, show (128 * (b / D) + r.val) / 128 = b / D by omega, Nat.mul_comm, Nat.div_add_mod]
  · apply Fin.ext
    show n / D % 128 = r.val
    rw [h2]
    omega

/-- What is known per group, block, row of a block and lane, laid out by row. -/
def spread (G : ℕ → ℕ → Fin 128 → Fin 128 → EReal) : S3x2048x128.Idx → EReal :=
  fun y => G (y 0).val (blk (4 ^ (y 0).val) (y 1).val) (row (4 ^ (y 0).val) (y 1).val) (y 2)

/-- Block `b` of a stack, cut out. -/
theorem cut_eq {k b : ℕ} (hb : b < 16) (o : (⟨3, ![16, 128, k]⟩ : Shape).Idx → EReal)
    (h : (⟨3, ![16, 128, k]⟩ : Shape).Slices ![b, 0, 0] ⟨3, ![1, 128, k]⟩) (x : (⟨3, ![1, 128, k]⟩ : Shape).Idx) :
    extractStridedSlice ⟨3, ![1, 128, k]⟩ ![b, 0, 0] o h x = o (ix3 ⟨b, hb⟩ (x 1) (x 2)) := by
  unfold extractStridedSlice
  refine congrArg o (funext fun a => Fin.ext ?_)
  have h0 : (x 0).val < 1 := (x 0).isLt
  fin_cases a
  · show b + (x 0).val = b
    omega
  · show 0 + (x 1).val = (x 1).val
    omega
  · show 0 + (x 2).val = (x 2).val
    omega

/-- A stored block of results is block `b` of the stack. -/
theorem cutO {b : ℕ} (hb : b < 16) (o : S16x128x128.Idx → EReal) {h h1 h2} (x : S1x128x128.Idx) :
    shapeCast S1x128x128 (shapeCast S128x128 (extractStridedSlice S1x128x128 ![b, 0, 0] o h) h1) h2 x = o (ix3 ⟨b, hb⟩ (x 1) (x 2)) := by
  rw [shapeCast_shapeCast _ h1 h2]
  exact cut_eq hb o h x

/-- A stored block of log-sums is block `b` of the stack, the same in every lane. -/
theorem cutL {b : ℕ} (hb : b < 16) (l : S16x128x1.Idx → EReal) {h h1 h2 h3 h4} (x : S1x128x128.Idx) :
    shapeCast S1x128x128 (broadcastTo S128x128 (shapeCast S128x1 (shapeCast S128x1
      (extractStridedSlice S1x128x1 ![b, 0, 0] l h) h1) h2) h3) h4 x = l (ix3 ⟨b, hb⟩ (x 1) 0) := by
  have hc := fun z => cut_eq hb l h z
  generalize hC : extractStridedSlice S1x128x1 ![b, 0, 0] l h = C
  rw [hC] at hc
  pointwise []
  exact hc _

/-- The layout by row, at row `r` of block `b`. -/
theorem spread_at (G : ℕ → ℕ → Fin 128 → Fin 128 → EReal) {g b D : ℕ} (hD : D = 4 ^ g) (y : S3x2048x128.Idx) (r d : Fin 128)
    (h0 : (y 0).val = g) (h1 : (y 1).val = first D b + D * r.val) (h2 : (y 2).val = d.val) : spread G y = G g b r d := by
  have hp := blk_row (by rw [hD]; positivity) r h1
  have hd : y 2 = d := Fin.ext h2
  unfold spread
  rw [h0, ← hD, hp.1, hp.2, hd]

/-- A block stored with stride `D` puts row `r` of block `b` where the layout by row has it. -/
theorem spread_strided (G : ℕ → ℕ → Fin 128 → Fin 128 → EReal) {g b n0 D : ℕ} (hD : D = 4 ^ g) (hn : n0 = first D b)
    {inb spos} (x : S1x128x128.Idx) :
    spread G (({ off := ![g, n0, 0], size := ![1, 128, 128], stride := ![1, D, 1], inb := inb, stride_pos := spos } : Rect S3x2048x128).emb x)
      = G g b (x 1) (x 2) := by
  have h0 : (x 0).val < 1 := (x 0).isLt
  refine spread_at G hD _ _ _ ?_ ?_ ?_
  · show g + 1 * (x 0).val = g
    omega
  · show n0 + D * (x 1).val = _
    rw [hn]
  · show 0 + 1 * (x 2).val = (x 2).val
    omega

/-- The same for a block stored in consecutive rows. -/
theorem spread_unit (G : ℕ → ℕ → Fin 128 → Fin 128 → EReal) {b n0 : ℕ} (hn : n0 = first 1 b) {inb} (x : S1x128x128.Idx) :
    spread G ((Rect.unit ![0, n0, 0] S1x128x128.size inb : Rect S3x2048x128).emb x) = G 0 b (x 1) (x 2) := by
  have h0 : (x 0).val < 1 := (x 0).isLt
  refine spread_at G (D := 1) (by norm_num) _ _ _ ?_ ?_ ?_
  · show 0 + 1 * (x 0).val = 0
    omega
  · show n0 + 1 * (x 1).val = _
    rw [hn]
  · show 0 + 1 * (x 2).val = (x 2).val
    omega

/-- A stored block of results of a group with a stride. -/
theorem piece_strided {G : ℕ → ℕ → Fin 128 → Fin 128 → EReal} {g D : ℕ} (hD : D = 4 ^ g) {o : S16x128x128.Idx → EReal}
    (ho : ∀ y, o y = G g (y 0).val (y 1) (y 2)) (b : ℕ) (hb : b < 16) {n0 : ℕ} (hn : n0 = first D b) {h h1 h2 inb spos} (x : S1x128x128.Idx) :
    shapeCast S1x128x128 (shapeCast S128x128 (extractStridedSlice S1x128x128 ![b, 0, 0] o h) h1) h2 x
      = spread G (({ off := ![g, n0, 0], size := ![1, 128, 128], stride := ![1, D, 1], inb := inb, stride_pos := spos } : Rect S3x2048x128).emb x) := by
  rw [cutO hb, ho, spread_strided G hD hn]
  rfl

/-- A stored block of results of group 0. -/
theorem piece_unit {G : ℕ → ℕ → Fin 128 → Fin 128 → EReal} {o : S16x128x128.Idx → EReal}
    (ho : ∀ y, o y = G 0 (y 0).val (y 1) (y 2)) (b : ℕ) (hb : b < 16) {n0 : ℕ} (hn : n0 = first 1 b) {h h1 h2 inb} (x : S1x128x128.Idx) :
    shapeCast S1x128x128 (shapeCast S128x128 (extractStridedSlice S1x128x128 ![b, 0, 0] o h) h1) h2 x
      = spread G ((Rect.unit ![0, n0, 0] S1x128x128.size inb : Rect S3x2048x128).emb x) := by
  rw [cutO hb, ho, spread_unit G hn]
  rfl

/-- A stored block of log-sums of a group with a stride. -/
theorem pieceL_strided {L : ℕ → ℕ → Fin 128 → EReal} {g D : ℕ} (hD : D = 4 ^ g) {l : S16x128x1.Idx → EReal}
    (hl : ∀ y, l y = L g (y 0).val (y 1)) (b : ℕ) (hb : b < 16) {n0 : ℕ} (hn : n0 = first D b) {h h1 h2 h3 h4 inb spos} (x : S1x128x128.Idx) :
    shapeCast S1x128x128 (broadcastTo S128x128 (shapeCast S128x1 (shapeCast S128x1
      (extractStridedSlice S1x128x1 ![b, 0, 0] l h) h1) h2) h3) h4 x
      = spread (fun g b r _ => L g b r)
        (({ off := ![g, n0, 0], size := ![1, 128, 128], stride := ![1, D, 1], inb := inb, stride_pos := spos } : Rect S3x2048x128).emb x) := by
  rw [cutL hb, hl, spread_strided _ hD hn]
  rfl

/-- A stored block of log-sums of group 0. -/
theorem pieceL_unit {L : ℕ → ℕ → Fin 128 → EReal} {l : S16x128x1.Idx → EReal}
    (hl : ∀ y, l y = L 0 (y 0).val (y 1)) (b : ℕ) (hb : b < 16) {n0 : ℕ} (hn : n0 = first 1 b) {h h1 h2 h3 h4 inb} (x : S1x128x128.Idx) :
    shapeCast S1x128x128 (broadcastTo S128x128 (shapeCast S128x1 (shapeCast S128x1
      (extractStridedSlice S1x128x1 ![b, 0, 0] l h) h1) h2) h3) h4 x
      = spread (fun g b r _ => L g b r) ((Rect.unit ![0, n0, 0] S1x128x128.size inb : Rect S3x2048x128).emb x) := by
  rw [cutL hb, hl, spread_unit _ hn]
  rfl

/-- A row is one row of its block. -/
theorem first_blk {D : ℕ} (hD : 0 < D) (n : ℕ) : n = first D (blk D n) + D * (row D n).val := by
  have h1 : blk D n % D = n % D := by
    unfold blk
    rw [Nat.mul_add_mod_self_right, Nat.mod_mod]
  have h2 : blk D n / D = n / D / 128 := by
    unfold blk
    rw [Nat.mul_comm, Nat.mul_add_div hD, Nat.div_eq_of_lt (Nat.mod_lt _ hD), Nat.add_zero]
  have h3 := Nat.div_add_mod n D
  have h4 := Nat.div_add_mod (n / D) 128
  unfold first
  rw [h1, h2]
  show n = n % D + 128 * D * (n / D / 128) + D * (n / D % 128)
  calc n = D * (n / D) + n % D := h3.symm
    _ = D * (128 * (n / D / 128) + n / D % 128) + n % D := by rw [h4]
    _ = _ := by ring

/-- The number of a position's group and block, counted through all three groups. -/
def code (y : S3x2048x128.Idx) : ℕ := 16 * (y 0).val + blk (4 ^ (y 0).val) (y 1).val

/-- A block number is below sixteen. -/
theorem blk_lt (y : S3x2048x128.Idx) : blk (4 ^ (y 0).val) (y 1).val < 16 := by
  have h0 : (y 0).val < 3 := (y 0).isLt
  have h1 : (y 1).val < 2048 := (y 1).isLt
  unfold blk
  generalize (y 0).val = g at *
  generalize (y 1).val = n at *
  interval_cases g <;> norm_num <;> omega

/-- The code of a position gives its group and its block. -/
theorem of_code {y : S3x2048x128.Idx} {n : ℕ} (h : code y = n) :
    (y 0).val = n / 16 ∧ blk (4 ^ (y 0).val) (y 1).val = n % 16 := by
  have h1 := blk_lt y
  unfold code at h
  omega

/-- A code is below forty-eight. -/
theorem code_lt (y : S3x2048x128.Idx) : code y < 48 := by
  have h0 : (y 0).val < 3 := (y 0).isLt
  have h1 := blk_lt y
  unfold code
  omega

/-- What a stored block with a stride does not hold is not of its group and block. -/
theorem code_strided {y : S3x2048x128.Idx} {g D n0 n : ℕ} {inb spos}
    (hg : g = n / 16) (hD : D = 4 ^ g) (hn : n0 = first D (n % 16))
    (h : y ∉ ({ off := ![g, n0, 0], size := ![1, 128, 128], stride := ![1, D, 1], inb := inb, stride_pos := spos } : Rect S3x2048x128).set) :
    code y ≠ n := by
  intro hc
  obtain ⟨h0, h1⟩ := of_code hc
  rw [h0, ← hg, ← hD] at h1
  have h2 := first_blk (D := D) (by rw [hD]; positivity) (y 1).val
  rw [h1, ← hn] at h2
  refine h ((LoadRect.mem_set _).2 fun a => ?_)
  fin_cases a
  · exact ⟨0, Nat.one_pos, by show (y 0).val = g + 1 * 0; omega⟩
  · exact ⟨(row D (y 1).val).val, (row D (y 1).val).isLt, h2⟩
  · exact ⟨(y 2).val, (y 2).isLt, by show (y 2).val = 0 + 1 * (y 2).val; omega⟩

/-- The same for a block stored in consecutive rows. -/
theorem code_unit {y : S3x2048x128.Idx} {n0 n : ℕ} {inb} (hg : 0 = n / 16) (hn : n0 = first 1 (n % 16))
    (h : y ∉ (Rect.unit ![0, n0, 0] S1x128x128.size inb : Rect S3x2048x128).set) : code y ≠ n := by
  intro hc
  obtain ⟨h0, h1⟩ := of_code hc
  rw [h0, ← hg, pow_zero] at h1
  have h2 := first_blk (D := 1) Nat.one_pos (y 1).val
  rw [h1, ← hn] at h2
  refine h ((LoadRect.mem_set _).2 fun a => ?_)
  fin_cases a
  · exact ⟨0, Nat.one_pos, by show (y 0).val = 0 + 1 * 0; omega⟩
  · exact ⟨(row 1 (y 1).val).val, (row 1 (y 1).val).isLt, h2⟩
  · exact ⟨(y 2).val, (y 2).isLt, by show (y 2).val = 0 + 1 * (y 2).val; omega⟩

/-- One more stored block: what none of the blocks holds has none of their codes. -/
theorem code_cons {y : S3x2048x128.Idx} {n : ℕ} {p : View.Piece (Elt Ideal) S3x2048x128 .f32} {L : List (View.Piece (Elt Ideal) S3x2048x128 .f32)}
    (hp : y ∉ p.1.set → code y ≠ n) (hL : (∀ q ∈ L, y ∉ q.1.set) → ∀ m < n, code y ≠ m) (h : ∀ q ∈ p :: L, y ∉ q.1.set) :
    ∀ m < n + 1, code y ≠ m := by
  rw [List.forall_mem_cons] at h
  intro m hm
  rcases Nat.lt_succ_iff_lt_or_eq.1 hm with hlt | rfl
  · exact hL h.2 m hlt
  · exact hp h.1

/-- Blocks that leave no code out hold every position. -/
theorem covered {L : List (View.Piece (Elt Ideal) S3x2048x128 .f32)} (y : S3x2048x128.Idx)
    (h : (∀ q ∈ L, y ∉ q.1.set) → ∀ m < 48, code y ≠ m) : ∃ p ∈ L, y ∈ p.1.set := by
  by_contra hc
  push Not at hc
  exact h hc (code y) (code_lt y) rfl

end Cert.Proof.Attn
-- ==== Proof.AttnScratch.lean ====
/-
  What the two scratch buffers of the attention kernel hold when its three groups are done.
-/
module

public import proofs.«01_k».proof.Proof.Gen.KernelIdeal.Value
public import Idealize.ShloMosaic.Lib.Pipeline.ValueKit
public import proofs.«01_k».proof.Proof.AttnLayout
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- One value per group, out of three. -/
def byGroup {A : Type} (f0 f1 f2 : A) : ℕ → A
  | 0 => f0
  | 1 => f1
  | _ => f2

section

variable (c : Dev nD) (i : grid0.Coords) {arg2 : Memref sig .tc .smem S3x8 .f32} (h2 : arg2.IsWhole)
  {arg3 arg4 arg5 arg6 arg7 arg8 arg9 arg10 arg11 : Memref sig .tc .vmem S1x2048x128 .f32} (h3 : arg3.IsWhole) (h4 : arg4.IsWhole)
  (h5 : arg5.IsWhole) (h6 : arg6.IsWhole) (h7 : arg7.IsWhole) (h8 : arg8.IsWhole) (h9 : arg9.IsWhole) (h10 : arg10.IsWhole)
  (h11 : arg11.IsWhole) (x0 : S3x8.Idx → Elt Ideal .f32) (x1 x2 x3 x4 x5 x6 x7 x8 x9 : S1x2048x128.Idx → Elt Ideal .f32)

/-- The result of every group, block, row and lane. -/
def outs : ℕ → ℕ → Fin 128 → Fin 128 → EReal :=
  byGroup (rowOut 1 (kernelRun0_A.sl.r_1 (F := Ideal) c i arg2 h2 x0) (kernelRun0_A.sl.r_2 (F := Ideal) c i arg2 h2 x0) x1 x2 x3)
    (rowOut 4 (kernelRun0_A.sl.r_78 (F := Ideal) c i arg2 h2 x0) (kernelRun0_A.sl.r_80 (F := Ideal) c i arg2 h2 x0) x4 x5 x6)
    (ownOut 16 (kernelRun0_A.sl.r_138 (F := Ideal) c i arg2 h2 x0) x7 x8 x9)

/-- The log-sum of every group, block and row. -/
def lses : ℕ → ℕ → Fin 128 → EReal :=
  byGroup (fun b r => lse (score 1 (kernelRun0_A.sl.r_1 (F := Ideal) c i arg2 h2 x0) (kernelRun0_A.sl.r_2 (F := Ideal) c i arg2 h2 x0) x1 x2 b r))
    (fun b r => lse (score 4 (kernelRun0_A.sl.r_78 (F := Ideal) c i arg2 h2 x0) (kernelRun0_A.sl.r_80 (F := Ideal) c i arg2 h2 x0) x4 x5 b r))
    (fun b r => lse (scoreOwn 16 (kernelRun0_A.sl.r_138 (F := Ideal) c i arg2 h2 x0) x7 x8 b r))

/-- What the first scratch buffer holds after the groups. -/
theorem scratch0 (y : S3x2048x128.Idx) :
    View.canon (kernelRun0_A.sl.HS0_48 (F := Ideal) c i arg2 h2 arg3 h3 arg4 h4 arg5 h5 arg6 h6 arg7 h7 arg8 h8 arg9 h9 arg10 h10 arg11 h11
      x0 x1 x2 x3 x4 x5 x6 x7 x8 x9) y = spread (outs c i h2 x0 x1 x2 x3 x4 x5 x6 x7 x8 x9) y := by
  have g0 : ∀ y, kernelRun0_A.sl.r_70 (F := Ideal) c i arg2 h2 arg3 h3 arg4 h4 arg5 h5 x0 x1 x2 x3 y
      = outs c i h2 x0 x1 x2 x3 x4 x5 x6 x7 x8 x9 0 (y 0).val (y 1) (y 2) := fun y => o0 c h3 h4 h5 x1 x2 x3 _ _ y
  have g1 : ∀ y, kernelRun0_A.sl.r_134 (F := Ideal) c i arg2 h2 arg6 h6 arg7 h7 arg8 h8 x0 x4 x5 x6 y
      = outs c i h2 x0 x1 x2 x3 x4 x5 x6 x7 x8 x9 1 (y 0).val (y 1) (y 2) := fun y => o1 c h6 h7 h8 x4 x5 x6 _ _ y
  have g2 : ∀ y, kernelRun0_A.sl.r_184 (F := Ideal) c i arg2 h2 arg9 h9 arg10 h10 arg11 h11 x0 x7 x8 x9 y
      = outs c i h2 x0 x1 x2 x3 x4 x5 x6 x7 x8 x9 2 (y 0).val (y 1) (y 2) := fun y => o2 c h9 h10 h11 x7 x8 x9 _ y
  refine View.canon_apply_of_pieces _ _ ?_ y (covered y ?_)
  · unfold kernelRun0_A.sl.HS0_48
    iterate 16 refine List.forall_mem_cons.2 ⟨piece_strided (g := 2) (D := 16) (by norm_num) g2 _ (by decide) (by decide) (h := by decide), ?_⟩
    iterate 16 refine List.forall_mem_cons.2 ⟨piece_strided (g := 1) (D := 4) (by norm_num) g1 _ (by decide) (by decide) (h := by decide), ?_⟩
    iterate 16 refine List.forall_mem_cons.2 ⟨piece_unit g0 _ (by decide) (by decide) (h := by decide) (inb := by decide), ?_⟩
    exact List.forall_mem_nil _
  · unfold kernelRun0_A.sl.HS0_48
    iterate 16 refine code_cons (code_strided (g := 2) (D := 16) (by decide) (by decide) (by decide)) ?_
    iterate 16 refine code_cons (code_strided (g := 1) (D := 4) (by decide) (by decide) (by decide)) ?_
    iterate 16 refine code_cons (code_unit (by decide) (by decide) (inb := by decide)) ?_
    exact fun _ m hm => absurd hm (Nat.not_lt_zero m)

/-- What the second scratch buffer holds after the groups: the log-sums, the same in every lane. -/
theorem scratch1 (y : S3x2048x128.Idx) :
    View.canon (kernelRun0_A.sl.HS1_48 (F := Ideal) c i arg2 h2 arg3 h3 arg4 h4 arg6 h6 arg7 h7 arg9 h9 arg10 h10
      x0 x1 x2 x4 x5 x7 x8) y = spread (fun g b r _ => lses c i h2 x0 x1 x2 x4 x5 x7 x8 g b r) y := by
  have g0 : ∀ y, kernelRun0_A.sl.r_71 (F := Ideal) c i arg2 h2 arg3 h3 arg4 h4 x0 x1 x2 y
      = lses c i h2 x0 x1 x2 x4 x5 x7 x8 0 (y 0).val (y 1) := fun y => l0 c h3 h4 x1 x2 _ _ y
  have g1 : ∀ y, kernelRun0_A.sl.r_135 (F := Ideal) c i arg2 h2 arg6 h6 arg7 h7 x0 x4 x5 y
      = lses c i h2 x0 x1 x2 x4 x5 x7 x8 1 (y 0).val (y 1) := fun y => l1 c h6 h7 x4 x5 _ _ y
  have g2 : ∀ y, kernelRun0_A.sl.r_185 (F := Ideal) c i arg2 h2 arg9 h9 arg10 h10 x0 x7 x8 y
      = lses c i h2 x0 x1 x2 x4 x5 x7 x8 2 (y 0).val (y 1) := fun y => l2 c h9 h10 x7 x8 _ y
  refine View.canon_apply_of_pieces _ _ ?_ y (covered y ?_)
  · unfold kernelRun0_A.sl.HS1_48
    iterate 16 refine List.forall_mem_cons.2 ⟨pieceL_strided (g := 2) (D := 16) (by norm_num) g2 _ (by decide) (by decide) (h := by decide) (h3 := by decide), ?_⟩
    iterate 16 refine List.forall_mem_cons.2 ⟨pieceL_strided (g := 1) (D := 4) (by norm_num) g1 _ (by decide) (by decide) (h := by decide) (h3 := by decide), ?_⟩
    iterate 16 refine List.forall_mem_cons.2 ⟨pieceL_unit g0 _ (by decide) (by decide) (h := by decide) (h3 := by decide) (inb := by decide), ?_⟩
    exact List.forall_mem_nil _
  · unfold kernelRun0_A.sl.HS1_48
    iterate 16 refine code_cons (code_strided (g := 2) (D := 16) (by decide) (by decide) (by decide)) ?_
    iterate 16 refine code_cons (code_strided (g := 1) (D := 4) (by decide) (by decide) (by decide)) ?_
    iterate 16 refine code_cons (code_unit (by decide) (by decide) (inb := by decide)) ?_
    exact fun _ m hm => absurd hm (Nat.not_lt_zero m)

end

end Cert.Proof.Attn
-- ==== Proof.AttnBody.lean ====
/-
  The closing loop of the attention kernel: the three groups combined row by row, and what a grid point leaves.
-/
module

public import proofs.«01_k».proof.Proof.Gen.KernelIdeal.Value
public import Idealize.ShloMosaic.Lib.Pipeline.ValueKit
public import proofs.«01_k».proof.Proof.AttnScratch
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen

/-- The combination of three groups' results, laid out by row. -/
def comb (s0 s1 : S3x2048x128.Idx → EReal) : S1x2048x128.Idx → EReal :=
  fun y => blend (fun g => s1 (ix3 g (y 1) (y 2))) (fun g => s0 (ix3 g (y 1) (y 2)))

/-- One turn of the closing loop blends three results by the softmax of their log-sums. -/
theorem pay3_eq (a b c d e f : S1x128x128.Idx → EReal) (x : S1x128x128.Idx) :
    k0_pay3 (F := Ideal) a b c d e f x = blend ![d x, e x, f x] ![a x, b x, c x] := by
  rw [blend_eq]
  pointwise [k0_pay3]

/-- A turn reads the rows of group `g` that it writes. -/
theorem place (g : Fin 3) {o3 o1 : Fin 3 → ℕ} {n : ℕ} (e3 : o3 = ![g.val, n, 0]) (e1 : o1 = ![0, n, 0]) (inb3 inb1) (x : S1x128x128.Idx) :
    (Rect.unit (s := S3x2048x128) o3 S1x128x128.size inb3).toLoadRect.idx x
      = ix3 g ((Rect.unit (s := S1x2048x128) o1 S1x128x128.size inb1).emb x 1) ((Rect.unit (s := S1x2048x128) o1 S1x128x128.size inb1).emb x 2) := by
  subst e3 e1
  have h0 : (x 0).val < 1 := (x 0).isLt
  funext a
  apply Fin.ext
  fin_cases a
  · show g.val + 1 * (x 0).val = g.val
    omega
  · rfl
  · rfl

section
variable (c : Dev nD) (i : grid0.Coords) {arg2 : Memref sig .tc .smem S3x8 .f32} (h2 : arg2.IsWhole)
  {arg3 arg4 arg5 arg6 arg7 arg8 arg9 arg10 arg11 : Memref sig .tc .vmem S1x2048x128 .f32} (h3 : arg3.IsWhole) (h4 : arg4.IsWhole)
  (h5 : arg5.IsWhole) (h6 : arg6.IsWhole) (h7 : arg7.IsWhole) (h8 : arg8.IsWhole) (h9 : arg9.IsWhole) (h10 : arg10.IsWhole)
  (h11 : arg11.IsWhole) {arg12 : Memref sig .tc .vmem S1x2048x128 .bf16} (h12 : arg12.IsWhole)
  {arg13 arg14 : Memref sig .tc .vmem S3x2048x128 .f32} (h13 : arg13.IsWhole) (h14 : arg14.IsWhole)
  (L0 L1 : List (View.Piece (Elt Ideal) S3x2048x128 .f32))

/-- The block a turn stores is the combination of the groups, in the rows it stores to. -/
theorem trip_piece (k : Fin k0_t1_loop.trips) : ∀ p ∈ tripL_k0_t1 (F := Ideal) Variants.none c none i arg2 h2 arg3 h3 arg4 h4 arg5 h5 arg6 h6 arg7 h7 arg8 h8
      arg9 h9 arg10 h10 arg11 h11 arg12 h12 arg13 h13 arg14 h14 (arg13.view.writes (Elt Ideal) arg13.view.junk L0)
      (arg14.view.writes (Elt Ideal) arg14.view.junk L1) k,
    ∀ x, p.2 x = comb (View.canon L0) (View.canon L1) (p.1.emb x) := by
  unfold tripL_k0_t1 trip_k0_t1
  dsimp only
  refine List.forall_mem_cons.2 ⟨fun x => ?_, List.forall_mem_nil _⟩
  rw [View.readAt_writes_junk_eq_canon, View.readAt_writes_junk_eq_canon, View.readAt_writes_junk_eq_canon,
    View.readAt_writes_junk_eq_canon, View.readAt_writes_junk_eq_canon, View.readAt_writes_junk_eq_canon]
  generalize View.canon L0 = s0
  generalize View.canon L1 = s1
  have e4 := k0_off4_eq k
  have e5 := k0_off5_eq k
  have e6 := k0_off6_eq k
  have e7 := k0_off7_eq k
  refine (pay3_eq _ _ _ _ _ _ x).trans ?_
  unfold comb
  refine congrArg₂ blend (funext fun g => ?_) (funext fun g => ?_)
  · fin_cases g
    · exact congrArg s1 (place 0 e4 e7 _ (k0_off7_inb k) x)
    · exact congrArg s1 (place 1 e5 e7 _ (k0_off7_inb k) x)
    · exact congrArg s1 (place 2 e6 e7 _ (k0_off7_inb k) x)
  · fin_cases g
    · exact congrArg s0 (place 0 e4 e7 _ (k0_off7_inb k) x)
    · exact congrArg s0 (place 1 e5 e7 _ (k0_off7_inb k) x)
    · exact congrArg s0 (place 2 e6 e7 _ (k0_off7_inb k) x)

/-- So does every block stored by the turns so far. -/
theorem loop_pieces (k : ℕ) (hk : k ≤ k0_t1_loop.trips) : ∀ p ∈ pb_k0_t1 (F := Ideal) Variants.none c none i arg2 h2 arg3 h3 arg4 h4 arg5 h5 arg6 h6
      arg7 h7 arg8 h8 arg9 h9 arg10 h10 arg11 h11 arg12 h12 arg13 h13 arg14 h14 (arg13.view.writes (Elt Ideal) arg13.view.junk L0)
      (arg14.view.writes (Elt Ideal) arg14.view.junk L1) k,
    ∀ x, p.2 x = comb (View.canon L0) (View.canon L1) (p.1.emb x) := by
  induction k with
  | zero => exact List.forall_mem_nil _
  | succ k ih =>
    rw [pb_k0_t1_succ (F := Ideal) Variants.none c none i arg2 h2 arg3 h3 arg4 h4 arg5 h5 arg6 h6 arg7 h7 arg8 h8 arg9 h9 arg10 h10 arg11 h11
      arg12 h12 arg13 h13 arg14 h14 _ _ ⟨k, hk⟩]
    intro p hp
    rcases List.mem_append.1 hp with h | h
    · exact trip_piece c i h2 h3 h4 h5 h6 h7 h8 h9 h10 h11 h12 h13 h14 L0 L1 ⟨k, hk⟩ p h
    · exact ih (Nat.le_of_succ_le hk) p h

end

variable (m : (ℓ : Loc nD τ sig) → Buf (Elt Ideal) ℓ)

/-- What a grid point leaves in the output block: the groups' results of its own blocks of the arrays, combined row by row. -/
theorem outs_eq (c : Dev nD) (t : Fin cfg0.N) (y : S1x2048x128.Idx) :
    outsAt0 (F := Ideal) m c t y
      = comb (spread (outs c (grid0.coords t) (hs0_0 t) (iblk m c 0 t) (iblk m c 1 t) (iblk m c 2 t) (iblk m c 3 t) (iblk m c 4 t)
          (iblk m c 5 t) (iblk m c 6 t) (iblk m c 7 t) (iblk m c 8 t) (iblk m c 9 t)))
        (spread fun g b r _ => lses c (grid0.coords t) (hs0_0 t) (iblk m c 0 t) (iblk m c 1 t) (iblk m c 2 t) (iblk m c 4 t)
          (iblk m c 5 t) (iblk m c 7 t) (iblk m c 8 t) g b r) y := by
  unfold outsAt0 out0_A_10
  rw [View.read_writes_junk_eq_canon]
  have hcov := cover0_A_10 (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t) (ms0_10 t)
    (hs0_10 t) scM0_0 (Memref.isWhole_whole _) scM0_1 (Memref.isWhole_whole _) (iblk m c 0 t) (iblk m c 1 t) (iblk m c 2 t) (iblk m c 3 t)
    (iblk m c 4 t) (iblk m c 5 t) (iblk m c 6 t) (iblk m c 7 t) (iblk m c 8 t) (iblk m c 9 t) y
  have e0 := funext fun z => scratch0 c (grid0.coords t) (hs0_0 t) (hs0_1 t) (hs0_2 t) (hs0_3 t) (hs0_4 t) (hs0_5 t) (hs0_6 t) (hs0_7 t)
    (hs0_8 t) (hs0_9 t) (iblk m c 0 t) (iblk m c 1 t) (iblk m c 2 t) (iblk m c 3 t) (iblk m c 4 t) (iblk m c 5 t) (iblk m c 6 t)
    (iblk m c 7 t) (iblk m c 8 t) (iblk m c 9 t) z
  have e1 := funext fun z => scratch1 c (grid0.coords t) (hs0_0 t) (hs0_1 t) (hs0_2 t) (hs0_4 t) (hs0_5 t) (hs0_7 t)
    (hs0_8 t) (iblk m c 0 t) (iblk m c 1 t) (iblk m c 2 t) (iblk m c 4 t) (iblk m c 5 t) (iblk m c 7 t) (iblk m c 8 t) z
  rw [← e0, ← e1]
  refine View.canon_apply_of_pieces (comb _ _) _ ?_ y hcov
  unfold kernelRun0_A
  dsimp -zeta only
  exact loop_pieces c (grid0.coords t) (hs0_0 t) (hs0_1 t) (hs0_2 t) (hs0_3 t) (hs0_4 t) (hs0_5 t) (hs0_6 t) (hs0_7 t)
    (hs0_8 t) (hs0_9 t) (hs0_10 t) (Memref.isWhole_whole _) (Memref.isWhole_whole _) _ _ _ le_rfl

end Cert.Proof.Attn
-- ==== Proof.AttnRefSoft.lean ====
/-
  The softmax of the attention reference: over any array of scores, the operations it applies to a row give the plain
  greatest score, softmax weights, weighted mean and log of the summed exponentials of that row.
-/
module

public import proofs.«01_k».proof.Proof.Gen.ReferenceIdeal.Read
public import proofs.«01_k».proof.Proof.AttnBody
public import Idealize.ShloMosaic.Lib.Pipeline.ValueKit
public import Idealize.ShloMosaic.Lib.Claim
public import Idealize.ShloMosaic.Lib.WholeRead

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read
open Cert.Proof.Attn (top mass mean lse blend minus_inf)

variable (s : FVec Ideal S4x8x2048x129 .f32)

/-- The greatest score of every row, as the reference computes it. -/
def topOf : FVec Ideal S4x8x2048x1 .f32 :=
  broadcastInDim S4x8x2048x1 ![0, 1, 2] bcast_S4x8x2048_S4x8x2048x1_0_1_2
    (Host.reduce FloatOps.maximumf s (constant S_ .f32 0xFF800000#32) reducesTo_S4x8x2048x129_S4x8x2048_d3 h_S_)

/-- The exponentials of the scores less the row's greatest, as the reference computes them. -/
def expOf : FVec Ideal S4x8x2048x129 .f32 :=
  Host.exp (subf s (broadcastInDim S4x8x2048x129 ![0, 1, 2, 3] bcast_S4x8x2048x1_S4x8x2048x129_0_1_2_3 (topOf s)))

/-- The softmax denominators, as the reference computes them. -/
def massOf : FVec Ideal S4x8x2048x1 .f32 :=
  broadcastInDim S4x8x2048x1 ![0, 1, 2] bcast_S4x8x2048_S4x8x2048x1_0_1_2
    (Host.reduceAdd (expOf s) (constant S_ .f32 0x00000000#32) reducesTo_S4x8x2048x129_S4x8x2048_d3 h_S_)

/-- The softmax weights, as the reference computes them. -/
def weightOf : FVec Ideal S4x8x2048x129 .f32 :=
  Host.divf (expOf s) (broadcastInDim S4x8x2048x129 ![0, 1, 2, 3] bcast_S4x8x2048x1_S4x8x2048x129_0_1_2_3 (massOf s))

/-- The logs of the summed exponentials, as the reference computes them. -/
def lseOf : FVec Ideal S4x2048x8 .f32 :=
  transpose S4x2048x8 [0, 2, 1] (shapeCast _ (addf (topOf s) (Host.log (massOf s))) shapeCasts_S4x8x2048x1_S4x8x2048)
    transposes_S4x8x2048_S4x2048x8_0_2_1

/-- The weighted sums of the values, as the reference computes them. -/
def outOf (v : FVec Ideal S4x2048x129x8x128 .f32) : FVec Ideal S4x2048x8x128 .f32 :=
  Host.dotGeneral dot_S4x8x2048x129_S4x2048x129x8x128_S4x2048x8x128_3_2_n_4_021_013 none (weightOf s) v

variable (b : Fin 4) (n : Fin 2048) (h : Fin 8)

/-- The reference's greatest score of a row is the plain one. -/
theorem topOf_apply : topOf s (ix4 b h n 0) = top fun k : Fin 129 => s (ix4 b h n k) := by
  rw [topOf]
  pointwise []
  rw [top, minus_inf]

/-- The reference's exponential of a score is the plain one. -/
theorem expOf_apply (k : Fin 129) :
    expOf s (ix4 b h n k) = Ideal.exp (s (ix4 b h n k) - top fun k : Fin 129 => s (ix4 b h n k)) := by
  rw [← topOf_apply, expOf]
  generalize topOf s = t
  pointwise []

/-- The reference's softmax denominator of a row is the plain one. -/
theorem massOf_apply : massOf s (ix4 b h n 0) = mass fun k : Fin 129 => s (ix4 b h n k) := by
  rw [massOf, mass]
  simp only [← expOf_apply]
  generalize expOf s = t
  pointwise []

/-- The reference's softmax weight is the plain one. -/
theorem weightOf_apply (k : Fin 129) : weightOf s (ix4 b h n k) =
    Ideal.div (Ideal.exp (s (ix4 b h n k) - top fun k : Fin 129 => s (ix4 b h n k))) (mass fun k : Fin 129 => s (ix4 b h n k)) := by
  rw [← expOf_apply, ← massOf_apply, weightOf]
  generalize expOf s = t
  generalize massOf s = d
  pointwise []

/-- Dropping the last axis, of one element. -/
theorem drop_apply (t : FVec Ideal S4x8x2048x1 .f32) :
    (shapeCast S4x8x2048 t shapeCasts_S4x8x2048x1_S4x8x2048) (ix3 b h n) = t (ix4 b h n 0) :=
  shapeCast_apply t shapeCasts_S4x8x2048x1_S4x8x2048 (ix3 b h n) (ix4 b h n 0) (by
    rewrite [Shape.rowMajor_val_four, Shape.rowMajor_val_three]
    show ((b.val * 8 + h.val) * 2048 + n.val) * 1 + 0 = (b.val * 8 + h.val) * 2048 + n.val
    omega)

/-- Exchanging the axes of heads and rows. -/
theorem swap_apply (t : FVec Ideal S4x8x2048 .f32) :
    (transpose S4x2048x8 [0, 2, 1] t transposes_S4x8x2048_S4x2048x8_0_2_1) (ix3 b n h) = t (ix3 b h n) :=
  transpose_apply [0, 2, 1] _ transposes_S4x8x2048_S4x2048x8_0_2_1 (ix3 b n h) (ix3 b h n) (fun a => match a with
    | ⟨0, _⟩ => rfl
    | ⟨1, _⟩ => rfl
    | ⟨2, _⟩ => rfl)

/-- A sum with the log of a row, at an index. -/
theorem sum_apply (t d : FVec Ideal S4x8x2048x1 .f32) :
    addf t (Host.log d) (ix4 b h n 0) = t (ix4 b h n 0) + Ideal.log (d (ix4 b h n 0)) := rfl

/-- The reference's log of a row's summed exponentials is the plain one. -/
theorem lseOf_apply : lseOf s (ix3 b n h) = lse fun k : Fin 129 => s (ix4 b h n k) :=
  (swap_apply b n h _).trans ((drop_apply b n h _).trans ((sum_apply b n h _ _).trans
    (congrArg₂ (fun t d => t + Ideal.log d) (topOf_apply s b n h) (massOf_apply s b n h))))

/-- The reference's weighted sum of the values is the plain one. -/
theorem outOf_apply (v : FVec Ideal S4x2048x129x8x128 .f32) (d : Fin 128) : outOf s v (ix4 b n h d) =
    mean (fun k : Fin 129 => s (ix4 b h n k)) fun k : Fin 129 => v (ix5 b n k h d) := by
  rw [mean, outOf]
  simp only [← weightOf_apply]
  generalize weightOf s = t
  pointwise []

variable (X : S8192x21504.Idx → EReal) (Sl : S3x8.Idx → EReal)

/-- The first group's logs of summed exponentials, from its scores. -/
theorem lse_0 : val_main_v69 (F := Ideal) X Sl = lseOf (val_main_v55 (F := Ideal) X Sl) := rfl

/-- The second group's logs of summed exponentials, from its scores. -/
theorem lse_1 : val_main_v133 (F := Ideal) X Sl = lseOf (val_main_v119 (F := Ideal) X Sl) := rfl

/-- The third group's logs of summed exponentials, from its scores. -/
theorem lse_2 : val_main_v197 (F := Ideal) X Sl = lseOf (val_main_v183 (F := Ideal) X Sl) := rfl

/-- The first group's attention, from its scores and values. -/
theorem out_0 : val_main_v65 (F := Ideal) X Sl = outOf (val_main_v55 (F := Ideal) X Sl) (val_main_v47 (F := Ideal) X) := rfl

/-- The second group's attention, from its scores and values. -/
theorem out_1 : val_main_v129 (F := Ideal) X Sl = outOf (val_main_v119 (F := Ideal) X Sl) (val_main_v111 (F := Ideal) X) := rfl

/-- The third group's attention, from its scores and values. -/
theorem out_2 : val_main_v193 (F := Ideal) X Sl = outOf (val_main_v183 (F := Ideal) X Sl) (val_main_v175 (F := Ideal) X) := rfl
end Cert.Proof.AttnRef
-- ==== Proof.AttnRefIn.lean ====
/-
  What the attention reference reads for a group: the entries of the packed projection that are its queries, keys and
  values, and the rows its index tensors name.
-/
module

public import proofs.«01_k».proof.Proof.Gen.ReferenceIdeal.Read
public import proofs.«01_k».proof.Proof.AttnRefSoft
public import Idealize.ShloMosaic.Lib.Pipeline.ValueKit
public import Idealize.ShloMosaic.Lib.Claim
public import Idealize.ShloMosaic.Lib.WholeRead

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read
open Cert.Proof.Attn (top mass mean lse blend minus_inf scale)

/-- The element of the packed projection that holds, for batch `b` and head `h`, entry `d` of row `n` of the queries
    (`t = 0`), keys (`t = 1`) or values (`t = 2`) of group `g`. -/
def entry (X : S8192x21504.Idx → EReal) (t g : ℕ) (b : Fin 4) (h : Fin 8) (n : ℕ) (d : Fin 128) : EReal :=
  X (ix2 ⟨2048 * b.val + n % 2048, by have := b.isLt; omega⟩ ⟨((24 * t + 8 * g + h.val) * 128 + d.val) % 21504, by omega⟩)

/-- One third of the first columns, with the packed axes separated. -/
def third (X : FVec Ideal S8192x21504 .f32) (o : ℕ) (ho : S8192x21504.Slices ![0, o] S8192x3072) : FVec Ideal S4x2048x3x8x128 .f32 :=
  shapeCast _ (extractStridedSlice S8192x3072 ![0, o] X ho) shapeCasts_S8192x3072_S4x2048x3x8x128

/-- One group of a third. -/
def pick (x : FVec Ideal S4x2048x3x8x128 .f32) (g : ℕ) (hg : S4x2048x3x8x128.Slices ![0, 0, g, 0, 0] S4x2048x1x8x128) :
    FVec Ideal S4x2048x8x128 .f32 :=
  shapeCast _ (extractStridedSlice S4x2048x1x8x128 ![0, 0, g, 0, 0] x hg) shapeCasts_S4x2048x1x8x128_S4x2048x8x128

variable (X : S8192x21504.Idx → EReal) (b : Fin 4) (n : Fin 2048) (h : Fin 8) (d : Fin 128)

/-- A third of the columns, at an index. -/
theorem third_apply (t : Fin 3) (ho : S8192x21504.Slices ![0, 3072 * t.val] S8192x3072) (g : Fin 3) :
    third X (3072 * t.val) ho (ix5 b n g h d) = entry X t.val g.val b h n.val d := by
  have := b.isLt; have := n.isLt; have := h.isLt; have := d.isLt; have := g.isLt; have := t.isLt
  refine (shapeCast_apply _ shapeCasts_S8192x3072_S4x2048x3x8x128 (ix5 b n g h d)
    (ix2 ⟨2048 * b.val + n.val, by omega⟩ ⟨(8 * g.val + h.val) * 128 + d.val, by omega⟩) ?_).trans
    (extractStridedSlice_apply ![0, 3072 * t.val] X ho _ _ fun a => ?_)
  · rewrite [Shape.rowMajor_val_two, Shape.rowMajor_val_five]
    show (2048 * b.val + n.val) * 3072 + ((8 * g.val + h.val) * 128 + d.val)
      = (((b.val * 2048 + n.val) * 3 + g.val) * 8 + h.val) * 128 + d.val
    omega
  · match a with
    | ⟨0, _⟩ =>
      show 2048 * b.val + n.val % 2048 = 0 + (2048 * b.val + n.val)
      omega
    | ⟨1, _⟩ =>
      show ((24 * t.val + 8 * g.val + h.val) * 128 + d.val) % 21504 = 3072 * t.val + ((8 * g.val + h.val) * 128 + d.val)
      omega

/-- A group of a third, at an index. -/
theorem pick_apply (x : FVec Ideal S4x2048x3x8x128 .f32) (g : Fin 3)
    (hg : S4x2048x3x8x128.Slices ![0, 0, g.val, 0, 0] S4x2048x1x8x128) : pick x g.val hg (ix4 b n h d) = x (ix5 b n g h d) := by
  refine (shapeCast_apply _ shapeCasts_S4x2048x1x8x128_S4x2048x8x128 (ix4 b n h d) (ix5 b n 0 h d) ?_).trans
    (extractStridedSlice_apply ![0, 0, g.val, 0, 0] x hg _ _ fun a => ?_)
  · rewrite [Shape.rowMajor_val_five, Shape.rowMajor_val_four]
    show (((b.val * 2048 + n.val) * 1 + 0) * 8 + h.val) * 128 + d.val = ((b.val * 2048 + n.val) * 8 + h.val) * 128 + d.val
    omega
  · match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm

/-- A group of a third of the projection, at an index: the queries, keys or values of that group. -/
theorem part_apply (t g : Fin 3) (ho : S8192x21504.Slices ![0, 3072 * t.val] S8192x3072)
    (hg : S4x2048x3x8x128.Slices ![0, 0, g.val, 0, 0] S4x2048x1x8x128) :
    pick (third X (3072 * t.val) ho) g.val hg (ix4 b n h d) = entry X t.val g.val b h n.val d := by
  rw [pick_apply, third_apply]

/-- A gather of rows, at an index. -/
theorem rows_apply (x : FVec Ideal S4x2048x8x128 .f32) (z : IVec S2048x129x1 32) (j : Fin 129) :
    Host.gather gather_S4x2048x8x128_S2048x129x1_S4x2048x129x8x128_034_1_n_n_1_2_418128 x z (ix5 b n j h d)
      = x (ix4 b ⟨min (z (ix3 n j 0)).toInt.toNat 2047, by omega⟩ h d) := by
  refine congrArg x (funext fun a => Fin.ext ?_)
  match a with
  | ⟨0, _⟩ => exact Nat.zero_add _
  | ⟨1, _⟩ =>
    show min (z _).toInt.toNat 2047 + 0 + 0 = min (z (ix3 n j 0)).toInt.toNat 2047
    rw [Nat.add_zero]
    exact congrArg (fun i => min (z i).toInt.toNat 2047) (funext fun c => match c with
      | ⟨0, _⟩ => rfl
      | ⟨1, _⟩ => rfl
      | ⟨2, _⟩ => rfl)
  | ⟨2, _⟩ => exact Nat.zero_add _
  | ⟨3, _⟩ => exact Nat.zero_add _

/-- The distance from a key to its query, in 32-bit words. -/
def behind (D : ℕ) (n : Fin 2048) (j : Fin 129) : BitVec 32 :=
  IntOp.subi (BitVec.ofNat 32 n.val) (IntOp.muli (BitVec.ofNat 32 j.val) (BitVec.ofNat 32 D))

/-- A small number as a signed word. -/
theorem word_toInt {k : ℕ} (hk : k < 2 ^ 31) : (BitVec.ofNat 32 k).toInt = k := by
  rw [BitVec.toInt_eq_toNat_bmod, BitVec.toNat_ofNat, Nat.mod_eq_of_lt (by omega)]
  exact Int.bmod_eq_of_le (by omega) (by omega)

/-- The position of key `j` of row `n`, as a signed word. -/
theorem behind_toInt {D : ℕ} (hD : D ≤ 16) (n : Fin 2048) (j : Fin 129) : (behind D n j).toInt = (n.val : ℤ) - D * j.val := by
  have hn := n.isLt
  have hj := j.isLt
  have hm : j.val * D ≤ 128 * 16 := Nat.mul_le_mul (by omega) hD
  have hm' : (0 : ℤ) ≤ D * j.val ∧ (D * j.val : ℤ) ≤ 2048 := by
    constructor
    · positivity
    · rw [← Nat.cast_mul, Nat.mul_comm]; exact_mod_cast hm
  rw [behind, IntOp.subi, IntOp.muli, ← BitVec.ofNat_mul, BitVec.toInt_sub, word_toInt (by omega), word_toInt (by omega),
    Nat.mul_comm, Nat.cast_mul]
  exact Int.bmod_eq_of_le (by omega) (by omega)

/-- The row the reference's index tensor names: the key's position, or the first row when there is none. -/
theorem index_toNat {D : ℕ} (hD : D ≤ 16) (n : Fin 2048) (j : Fin 129) :
    (Scalar.select (IntOp.cmpi .slt (IntOp.maxsi (behind D n j) 0#32) 0#32) (IntOp.addi (IntOp.maxsi (behind D n j) 0#32) 2048#32)
      (IntOp.maxsi (behind D n j) 0#32)).toInt.toNat = n.val - D * j.val := by
  have hb := behind_toInt hD n j
  by_cases h : (0#32).slt (behind D n j)
  · have : ¬ ((behind D n j).slt 0#32) := by
      simp only [BitVec.slt, decide_eq_true_eq, BitVec.toInt_zero] at h ⊢
      omega
    simp only [IntOp.maxsi, h, IntOp.cmpi, Scalar.select, if_true]
    simp [this, hb]
    omega
  · have h' : ¬ (0 < (behind D n j).toInt) := by simpa [BitVec.slt] using h
    simp only [IntOp.maxsi, h, IntOp.cmpi, Scalar.select]
    have hz : (n.val : ℤ) - ((D * j.val : ℕ) : ℤ) ≤ 0 := by push_cast; omega
    simp
    omega

/-- The reference's test that a key exists. -/
theorem valid_iff {D : ℕ} (hD : D ≤ 16) (n : Fin 2048) (j : Fin 129) :
    IntOp.cmpi .sge (behind D n j) 0#32 = 1 ↔ D * j.val ≤ n.val := by
  have hb := behind_toInt hD n j
  have : (0#32).sle (behind D n j) = decide (D * j.val ≤ n.val) := by
    rw [BitVec.sle, hb]
    simp only [BitVec.toInt_zero, decide_eq_decide]
    rw [← Nat.cast_mul]; omega
  rw [IntOp.cmpi]
  show BitVec.ofBool ((0#32).sle (behind D n j)) = 1 ↔ _
  rw [this]
  by_cases hc : D * j.val ≤ n.val <;> simp [hc]

/-- The distance as a number. -/
theorem far_cast {D : ℕ} (hD : D ≤ 16) (j : Fin 129) :
    FloatOps.sitofp (F := Ideal) FTy.f32 (IntOp.muli (BitVec.ofNat 32 j.val) (BitVec.ofNat 32 D)) = (((D * j.val : ℕ) : ℝ) : EReal) := by
  have hj := j.isLt
  have hm : j.val * D ≤ 128 * 16 := Nat.mul_le_mul (by omega) hD
  show ((BitVec.toInt (IntOp.muli (BitVec.ofNat 32 j.val) (BitVec.ofNat 32 D)) : ℝ) : EReal) = _
  rw [IntOp.muli, ← BitVec.ofNat_mul, word_toInt (by omega), Nat.mul_comm]
  norm_cast
end Cert.Proof.AttnRef
-- ==== Proof.AttnRefScore.lean ====
/-
  The scores and gathered values of the attention reference, group by group, as plain sums over the entries of the packed
  projection; and with the softmax of a row, the two numbers a group gives: its attention and the log of its summed
  exponentials.
-/
module

public import proofs.«01_k».proof.Proof.Gen.ReferenceIdeal.Read
public import proofs.«01_k».proof.Proof.AttnRefIn
public import Idealize.ShloMosaic.Lib.Pipeline.ValueKit
public import Idealize.ShloMosaic.Lib.Claim
public import Idealize.ShloMosaic.Lib.WholeRead

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read
open Cert.Proof.Attn (top mass mean lse blend minus_inf scale)

/-- The distances of the keys of a window with steps of `D` rows. -/
def far (D : ℕ) : IVec S129 32 :=
  muli (iotaInDim S129 32 0) (broadcastInDim S129 ![] bcast_S_S129 (constantI S_ 32 (BitVec.ofNat 32 D)))

/-- The positions of the keys of every row. -/
def place (D : ℕ) : IVec S2048x129 32 :=
  subi (broadcastInDim S2048x129 ![0, 1] bcast_S2048x1_S2048x129_0_1 (broadcastInDim S2048x1 ![0] bcast_S2048_S2048x1_0 (iotaInDim S2048 32 0)))
    (broadcastInDim S2048x129 ![0, 1] bcast_S1x129_S2048x129_0_1 (broadcastInDim S1x129 ![1] bcast_S129_S1x129_1 (far D)))

/-- The positions, with the first row's for a key that does not exist. -/
def clamped (D : ℕ) : IVec S2048x129 32 :=
  maxsi (place D) (broadcastInDim S2048x129 ![] bcast_S_S2048x129 (constantI S_ 32 0#32))

/-- The rows the gathers read. -/
def index (D : ℕ) : IVec S2048x129x1 32 :=
  broadcastInDim S2048x129x1 ![0, 1] bcast_S2048x129_S2048x129x1_0_1
    (select (cmpi .slt (clamped D) (broadcastInDim S2048x129 ![] bcast_S_S2048x129 (constantI S_ 32 0#32)))
      (addi (clamped D) (broadcastInDim S2048x129 ![] bcast_S_S2048x129 (constantI S_ 32 2048#32))) (clamped D))

/-- The slopes of group `g`, negated, as a column. -/
def falls (Sl : FVec Ideal S3x8 .f32) (g : ℕ) (hg : S3x8.Slices ![g, 0] S1x8) : FVec Ideal S8x1 .f32 :=
  Host.negf (broadcastInDim S8x1 ![0] bcast_S8_S8x1_0 (shapeCast _ (extractStridedSlice S1x8 ![g, 0] Sl hg) shapeCasts_S1x8_S8))

/-- The biases of every head and distance. -/
def tilt (Sl : FVec Ideal S3x8 .f32) (g D : ℕ) (hg : S3x8.Slices ![g, 0] S1x8) : FVec Ideal S8x129 .f32 :=
  mulf (broadcastInDim S8x129 ![0, 1] bcast_S8x1_S8x129_0_1 (falls Sl g hg))
    (broadcastInDim S8x129 ![0, 1] bcast_S1x129_S8x129_0_1 (broadcastInDim S1x129 ![1] bcast_S129_S1x129_1 (sitofp .f32 (far D))))

/-- The products of the queries with the gathered keys. -/
def dots (q : FVec Ideal S4x2048x8x128 .f32) (k : FVec Ideal S4x2048x129x8x128 .f32) : FVec Ideal S4x8x2048x129 .f32 :=
  Host.dotGeneral dot_S4x2048x8x128_S4x2048x129x8x128_S4x8x2048x129_3_4_n_2_021_031 none q k

/-- The gathered rows. -/
def gathered (D : ℕ) (x : FVec Ideal S4x2048x8x128 .f32) : FVec Ideal S4x2048x129x8x128 .f32 :=
  Host.gather gather_S4x2048x8x128_S2048x129x1_S4x2048x129x8x128_034_1_n_n_1_2_418128 x (index D)

/-- The scores, minus infinity where there is no key. -/
def masked (D : ℕ) (s : FVec Ideal S4x8x2048x129 .f32) (u : FVec Ideal S8x129 .f32) : FVec Ideal S4x8x2048x129 .f32 :=
  select (broadcastInDim S4x8x2048x129 ![0, 1, 2, 3] bcast_S1x1x2048x129_S4x8x2048x129_0_1_2_3
      (broadcastInDim S1x1x2048x129 ![2, 3] bcast_S2048x129_S1x1x2048x129_2_3
        (cmpi .sge (place D) (broadcastInDim S2048x129 ![] bcast_S_S2048x129 (constantI S_ 32 0#32)))))
    (addf (mulf s (broadcastInDim S4x8x2048x129 ![] bcast_S_S4x8x2048x129 (constant S_ .f32 0x3DB504F3#32)))
      (broadcastInDim S4x8x2048x129 ![0, 1, 2, 3] bcast_S1x8x1x129_S4x8x2048x129_0_1_2_3
        (broadcastInDim S1x8x1x129 ![1, 3] bcast_S8x129_S1x8x1x129_1_3 u)))
    (broadcastInDim S4x8x2048x129 ![] bcast_S_S4x8x2048x129 (id (constant S_ .f32 0xFF800000#32)))

variable (D : ℕ) (X : S8192x21504.Idx → EReal) (Sl : S3x8.Idx → EReal) (b : Fin 4) (n : Fin 2048) (h : Fin 8) (d : Fin 128) (j : Fin 129)

/-- The distances, at an index. -/
theorem far_apply : far D (ix1 j) = IntOp.muli (BitVec.ofNat 32 j.val) (BitVec.ofNat 32 D) := by
  rw [far]
  pointwise []

/-- The positions, at an index. -/
theorem place_apply : place D (ix2 n j) = behind D n j := by
  rw [behind, ← far_apply, place]
  generalize far D = f
  pointwise []

/-- The clamped positions, at an index. -/
theorem clamped_apply : clamped D (ix2 n j) = IntOp.maxsi (behind D n j) 0#32 := by
  rw [← place_apply, clamped]
  generalize place D = f
  pointwise []

/-- The rows the gathers read, at an index. -/
theorem index_apply (hD : D ≤ 16) : (index D (ix3 n j 0)).toInt.toNat = n.val - D * j.val := by
  rw [← index_toNat hD, ← clamped_apply, index]
  generalize clamped D = f
  pointwise []

/-- The gathered rows, at an index. -/
theorem gathered_apply (hD : D ≤ 16) (x : FVec Ideal S4x2048x8x128 .f32) :
    gathered D x (ix5 b n j h d) = x (ix4 b ⟨n.val - D * j.val, by omega⟩ h d) := by
  rw [gathered, rows_apply]
  exact congrArg (fun r => x (ix4 b r h d)) (Fin.ext (by
    show min (index D (ix3 n j 0)).toInt.toNat 2047 = n.val - D * j.val
    rw [index_apply D n j hD]
    omega))

/-- The negated slopes, at an index. -/
theorem falls_apply (g : Fin 3) (hg : S3x8.Slices ![g.val, 0] S1x8) : falls Sl g.val hg (ix2 h 0) = - Sl (ix2 g h) := by
  rw [falls]
  pointwise []

/-- The biases, at an index. -/
theorem tilt_apply (g : Fin 3) (hg : S3x8.Slices ![g.val, 0] S1x8) (hD : D ≤ 16) :
    tilt Sl g.val D hg (ix2 h j) = - Sl (ix2 g h) * (((D * j.val : ℕ) : ℝ) : EReal) := by
  rw [← falls_apply Sl h g hg, ← far_cast hD, ← far_apply, tilt]
  generalize falls Sl g.val hg = f
  generalize far D = r
  pointwise []

/-- The products, at an index. -/
theorem dots_apply (q : FVec Ideal S4x2048x8x128 .f32) (k : FVec Ideal S4x2048x129x8x128 .f32) :
    dots q k (ix4 b h n j) = ∑ d : Fin 128, q (ix4 b n h d) * k (ix5 b n j h d) := by
  rw [dots]
  pointwise []

/-- The masked scores, at an index. -/
theorem masked_apply (hD : D ≤ 16) (s : FVec Ideal S4x8x2048x129 .f32) (u : FVec Ideal S8x129 .f32) :
    masked D s u (ix4 b h n j) = if D * j.val ≤ n.val then s (ix4 b h n j) * scale + u (ix2 h j) else ⊥ := by
  have hv := valid_iff hD n j
  rw [← place_apply] at hv
  rw [masked]
  generalize place D = p at hv ⊢
  pointwise []
  rw [Scalar.select, show id (constant (F := Ideal) S_ FTy.f32 0xFF800000#32) ix0 = ⊥ from minus_inf]
  simp only [hv]
  rfl

/-- The plain score of row `n` against the key `D * j` rows before it. -/
def refScore (g : ℕ) (sl : EReal) (n : ℕ) (j : Fin 129) : EReal :=
  if D * j.val ≤ n then
    (∑ d : Fin 128, entry X 0 g b h n d * entry X 1 g b h (n - D * j.val) d) * scale + - sl * (((D * j.val : ℕ) : ℝ) : EReal)
  else ⊥

/-- The values a row's keys carry. -/
def refValue (g n : ℕ) (j : Fin 129) : EReal := entry X 2 g b h (n - D * j.val) d

/-- Group `g`'s scores, as the reference computes them. -/
def groupScores (g : ℕ) (hs : S3x8.Slices ![g, 0] S1x8) (hg : S4x2048x3x8x128.Slices ![0, 0, g, 0, 0] S4x2048x1x8x128) :
    FVec Ideal S4x8x2048x129 .f32 :=
  masked D (dots (pick (third X 0 slices_S8192x21504_S8192x3072_0_0) g hg)
    (gathered D (pick (third X 3072 slices_S8192x21504_S8192x3072_0_3072) g hg))) (tilt Sl g D hs)

/-- Group `g`'s gathered values, as the reference computes them. -/
def groupValues (g : ℕ) (hg : S4x2048x3x8x128.Slices ![0, 0, g, 0, 0] S4x2048x1x8x128) : FVec Ideal S4x2048x129x8x128 .f32 :=
  gathered D (pick (third X 6144 slices_S8192x21504_S8192x3072_0_6144) g hg)

/-- The reference's scores are the plain ones. -/
theorem groupScores_apply (hD : D ≤ 16) (g : Fin 3) (hs : S3x8.Slices ![g.val, 0] S1x8)
    (hg : S4x2048x3x8x128.Slices ![0, 0, g.val, 0, 0] S4x2048x1x8x128) :
    groupScores D X Sl g.val hs hg (ix4 b h n j) = refScore D X b h g.val (Sl (ix2 g h)) n.val j := by
  rw [groupScores, masked_apply _ _ _ _ _ hD, tilt_apply _ _ _ _ _ _ hD, dots_apply, refScore]
  simp only [gathered_apply _ _ _ _ _ _ hD]
  exact if_congr Iff.rfl (congrArg (fun s => s * scale + _) (Finset.sum_congr rfl fun d _ => congrArg₂ (· * ·)
    (part_apply X b n h d 0 g slices_S8192x21504_S8192x3072_0_0 hg)
    (part_apply X b ⟨n.val - D * j.val, by omega⟩ h d 1 g slices_S8192x21504_S8192x3072_0_3072 hg))) rfl

/-- The reference's gathered values are the plain ones. -/
theorem groupValues_apply (hD : D ≤ 16) (g : Fin 3) (hg : S4x2048x3x8x128.Slices ![0, 0, g.val, 0, 0] S4x2048x1x8x128) :
    groupValues D X g.val hg (ix5 b n j h d) = refValue D X b h d g.val n.val j := by
  rw [groupValues, gathered_apply _ _ _ _ _ _ hD]
  exact part_apply X b ⟨n.val - D * j.val, by omega⟩ h d 2 g slices_S8192x21504_S8192x3072_0_6144 hg

/-- The scores that the reference computes for the first group. -/
theorem scores_0 : val_main_v55 (F := Ideal) X Sl =
    groupScores 1 X Sl 0 slices_S3x8_S1x8_0_0 slices_S4x2048x3x8x128_S4x2048x1x8x128_0_0_0_0_0 := rfl

/-- The scores that the reference computes for the second group. -/
theorem scores_1 : val_main_v119 (F := Ideal) X Sl =
    groupScores 4 X Sl 1 slices_S3x8_S1x8_1_0 slices_S4x2048x3x8x128_S4x2048x1x8x128_0_0_1_0_0 := rfl

/-- The scores that the reference computes for the third group. -/
theorem scores_2 : val_main_v183 (F := Ideal) X Sl =
    groupScores 16 X Sl 2 slices_S3x8_S1x8_2_0 slices_S4x2048x3x8x128_S4x2048x1x8x128_0_0_2_0_0 := rfl

/-- The values that the reference gathers for the first group. -/
theorem values_0 : val_main_v47 (F := Ideal) X = groupValues 1 X 0 slices_S4x2048x3x8x128_S4x2048x1x8x128_0_0_0_0_0 := rfl

/-- The values that the reference gathers for the second group. -/
theorem values_1 : val_main_v111 (F := Ideal) X = groupValues 4 X 1 slices_S4x2048x3x8x128_S4x2048x1x8x128_0_0_1_0_0 := rfl

/-- The values that the reference gathers for the third group. -/
theorem values_2 : val_main_v175 (F := Ideal) X = groupValues 16 X 2 slices_S4x2048x3x8x128_S4x2048x1x8x128_0_0_2_0_0 := rfl

/-- The log of the summed exponentials of row `n` in the group with steps of `4 ^ g` rows. -/
def refLse (n : ℕ) (g : Fin 3) : EReal := lse (refScore (4 ^ g.val) X b h g.val (Sl (ix2 g h)) n)

/-- The attention of row `n` in the group with steps of `4 ^ g` rows. -/
def refOut (n : ℕ) (g : Fin 3) : EReal :=
  mean (refScore (4 ^ g.val) X b h g.val (Sl (ix2 g h)) n) (refValue (4 ^ g.val) X b h d g.val n)

/-- An element of the reference's logs of summed exponentials, first group. -/
theorem lse_0_apply : val_main_v69 (F := Ideal) X Sl (ix3 b n h) = refLse X Sl b h n.val 0 := by
  rw [lse_0, lseOf_apply, scores_0]
  exact congrArg lse (funext fun j => groupScores_apply _ X Sl b n h j (by decide) 0 _ _)

/-- An element of the reference's logs of summed exponentials, second group. -/
theorem lse_1_apply : val_main_v133 (F := Ideal) X Sl (ix3 b n h) = refLse X Sl b h n.val 1 := by
  rw [lse_1, lseOf_apply, scores_1]
  exact congrArg lse (funext fun j => groupScores_apply _ X Sl b n h j (by decide) 1 _ _)

/-- An element of the reference's logs of summed exponentials, third group. -/
theorem lse_2_apply : val_main_v197 (F := Ideal) X Sl (ix3 b n h) = refLse X Sl b h n.val 2 := by
  rw [lse_2, lseOf_apply, scores_2]
  exact congrArg lse (funext fun j => groupScores_apply _ X Sl b n h j (by decide) 2 _ _)

/-- An element of the reference's attention of the first group. -/
theorem out_0_apply : val_main_v65 (F := Ideal) X Sl (ix4 b n h d) = refOut X Sl b h d n.val 0 := by
  rw [out_0, outOf_apply, scores_0, values_0]
  exact congrArg₂ mean (funext fun j => groupScores_apply _ X Sl b n h j (by decide) 0 _ _)
    (funext fun j => groupValues_apply _ X b n h d j (by decide) 0 _)

/-- An element of the reference's attention of the second group. -/
theorem out_1_apply : val_main_v129 (F := Ideal) X Sl (ix4 b n h d) = refOut X Sl b h d n.val 1 := by
  rw [out_1, outOf_apply, scores_1, values_1]
  exact congrArg₂ mean (funext fun j => groupScores_apply _ X Sl b n h j (by decide) 1 _ _)
    (funext fun j => groupValues_apply _ X b n h d j (by decide) 1 _)

/-- An element of the reference's attention of the third group. -/
theorem out_2_apply : val_main_v193 (F := Ideal) X Sl (ix4 b n h d) = refOut X Sl b h d n.val 2 := by
  rw [out_2, outOf_apply, scores_2, values_2]
  exact congrArg₂ mean (funext fun j => groupScores_apply _ X Sl b n h j (by decide) 2 _ _)
    (funext fun j => groupValues_apply _ X b n h d j (by decide) 2 _)

end Cert.Proof.AttnRef
-- ==== Proof.AttnRef.lean ====
/-
  The attention reference as a whole: every element of its result is the blend of the three groups' attentions, weighted
  by the logs of their summed exponentials.
-/
module

public import proofs.«01_k».proof.Proof.Gen.ReferenceIdeal.Read
public import proofs.«01_k».proof.Proof.AttnRefScore
public import Idealize.ShloMosaic.Lib.Pipeline.ValueKit
public import Idealize.ShloMosaic.Lib.Claim
public import Idealize.ShloMosaic.Lib.WholeRead

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read
open Cert.Proof.Attn (top mass mean lse blend minus_inf scale)

variable (X : S8192x21504.Idx → EReal) (Sl : S3x8.Idx → EReal) (b : Fin 4) (n : Fin 2048) (h : Fin 8) (d : Fin 128) (g : Fin 3)

/-- The stacked logs of the summed exponentials. -/
theorem lses_apply : val_main_v201 (F := Ideal) X Sl (ix4 g b n h) = refLse X Sl b h n.val g := by
  have h0 := lse_0_apply X Sl b n h
  have h1 := lse_1_apply X Sl b n h
  have h2 := lse_2_apply X Sl b n h
  rw [val_main_v201, val_main_v198, val_main_v199, val_main_v200]
  generalize val_main_v69 (F := Ideal) X Sl = s0 at h0 ⊢
  generalize val_main_v133 (F := Ideal) X Sl = s1 at h1 ⊢
  generalize val_main_v197 (F := Ideal) X Sl = s2 at h2 ⊢
  pointwise []
  fin_cases g
  · exact h0
  · exact h1
  · exact h2

/-- The stacked attentions. -/
theorem outs_apply : val_main_v217 (F := Ideal) X Sl (ix5 g b n h d) = refOut X Sl b h d n.val g := by
  have h0 := out_0_apply X Sl b n h d
  have h1 := out_1_apply X Sl b n h d
  have h2 := out_2_apply X Sl b n h d
  rw [val_main_v217, val_main_v214, val_main_v215, val_main_v216]
  generalize val_main_v65 (F := Ideal) X Sl = s0 at h0 ⊢
  generalize val_main_v129 (F := Ideal) X Sl = s1 at h1 ⊢
  generalize val_main_v193 (F := Ideal) X Sl = s2 at h2 ⊢
  pointwise []
  fin_cases g
  · exact h0
  · exact h1
  · exact h2

/-- The greatest of the three logs. -/
theorem top_apply : val_main_v204 (F := Ideal) X Sl (ix3 b n h) = top (refLse X Sl b h n.val) := by
  have hl := fun g => lses_apply X Sl b n h g
  rw [val_main_v204, val_main_v203, val_main_v202, val_main_cst_31, val_main_cst_32]
  generalize val_main_v201 (F := Ideal) X Sl = s at hl ⊢
  pointwise []
  simp only [minus_inf, hl]
  rw [top]
  exact max_eq_right bot_le

/-- The exponentials of the logs less the greatest. -/
theorem exps_apply : val_main_v208 (F := Ideal) X Sl (ix4 g b n h) = Ideal.exp (refLse X Sl b h n.val g - top (refLse X Sl b h n.val)) := by
  rw [← top_apply, ← lses_apply X Sl b n h g, val_main_v208, val_main_v207, val_main_v206, val_main_v205]
  generalize val_main_v201 (F := Ideal) X Sl = s
  generalize val_main_v204 (F := Ideal) X Sl = t
  pointwise []

/-- Their sum. -/
theorem mass_apply : val_main_v209 (F := Ideal) X Sl (ix3 b n h) = mass (refLse X Sl b h n.val) := by
  have he := fun g => exps_apply X Sl b n h g
  rw [val_main_v209, val_main_cst_33]
  generalize val_main_v208 (F := Ideal) X Sl = s at he ⊢
  pointwise []
  simp only [he]
  rfl

/-- The weights of the groups. -/
theorem weights_apply : val_main_v212 (F := Ideal) X Sl (ix4 g b n h) =
    Ideal.div (Ideal.exp (refLse X Sl b h n.val g - top (refLse X Sl b h n.val))) (mass (refLse X Sl b h n.val)) := by
  rw [← mass_apply, ← exps_apply X Sl b n h g, val_main_v212, val_main_v211, val_main_v210]
  generalize val_main_v208 (F := Ideal) X Sl = s
  generalize val_main_v209 (F := Ideal) X Sl = t
  pointwise []

/-- The blended attention of a row. -/
theorem sum_groups : val_main_v220 (F := Ideal) X Sl (ix4 b n h d) = blend (refLse X Sl b h n.val) (refOut X Sl b h d n.val) := by
  have hw := fun g => weights_apply X Sl b n h g
  have ho := fun g => outs_apply X Sl b n h d g
  rw [val_main_v220, val_main_cst_34, val_main_v219, val_main_v218, val_main_v213]
  generalize val_main_v212 (F := Ideal) X Sl = s at hw ⊢
  generalize val_main_v217 (F := Ideal) X Sl = t at ho ⊢
  pointwise []
  simp only [hw, ho]
  rfl

/-- The whole reference, at an index: row `n` of head `h` of batch `b` is the blend of the three groups' attentions. -/
theorem ref_apply (i : S4x2048x1024.Idx) (hi : (i 2).val = h.val * 128 + d.val) :
    val_main_v222 (F := Ideal) X Sl i = blend (refLse X Sl (i 0) h (i 1).val) (refOut X Sl (i 0) h d (i 1).val) := by
  refine Eq.trans ?_ (sum_groups X Sl (i 0) (i 1) h d)
  refine shapeCast_apply (val_main_v220 (F := Ideal) X Sl) shapeCasts_S4x2048x8x128_S4x2048x1024 i (ix4 (i 0) (i 1) h d) ?_
  rewrite [Shape.rowMajor_val_four, Shape.rowMajor_val_three]
  show (((i 0).val * 2048 + (i 1).val) * 8 + h.val) * 128 + d.val = ((i 0).val * 2048 + (i 1).val) * 1024 + (i 2).val
  rw [hi]
  omega

end Cert.Proof.AttnRef
-- ==== Proof.AttnBias.lean ====
/-
  The biases the attention kernel adds to its scores, as plain numbers: a slope times the distance of the key, minus
  infinity for a key that is ahead or more than 128 steps back.
-/
module

public import proofs.«01_k».proof.Proof.Gen.KernelIdeal.Value
public import proofs.«01_k».proof.Proof.AttnRef
public import Idealize.ShloMosaic.Lib.Pipeline.ValueKit
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen
open Cert.Proof.AttnRef (word_toInt)

/-- The bias of a key `k` rows back under slope `a`. -/
def fall (a : EReal) (k : ℕ) : EReal := - a * ((k : ℝ) : EReal)

/-- The biases of a block's own keys, under slope `a` and steps of `D` rows. -/
def own (D : ℕ) (a : EReal) : S128x128.Idx → EReal := fun y =>
  if (y 1).val ≤ (y 0).val then fall a (D * ((y 0).val - (y 1).val)) else ⊥

/-- The biases of the keys of a block and of the block before it, under slope `a` and steps of `D` rows. -/
def both (D : ℕ) (a : EReal) : S128x256.Idx → EReal := fun y =>
  if (y 1).val ≤ (y 0).val + 128 ∧ (y 0).val ≤ (y 1).val then fall a (D * ((y 0).val + 128 - (y 1).val)) else ⊥

/-- The kernel's bias is the plain one. -/
theorem fall_eq (a : EReal) {s : EReal} (D : ℕ) (hs : s = ((D : ℝ) : EReal)) (k : ℕ) :
    (0 : EReal) - a * s * ((k : ℝ) : EReal) = fall a (D * k) := by
  rw [fall, hs, zero_sub, mul_assoc, ← EReal.coe_mul, EReal.neg_mul]
  norm_cast

/-- A difference of small words. -/
theorem sub_toInt {x y : ℕ} (hx : x < 2048) (hy : y < 2048) :
    (IntOp.subi (BitVec.ofNat 32 x) (BitVec.ofNat 32 y)).toInt = (x : ℤ) - y := by
  rw [IntOp.subi, BitVec.toInt_sub, word_toInt (by omega), word_toInt (by omega)]
  exact Int.bmod_eq_of_le (by omega) (by omega)

/-- One bias: the test of the sign and the distance as a number. -/
theorem ge_zero {x y : ℕ} (hx : x < 2048) (hy : y < 2048) :
    IntOp.cmpi .sge (IntOp.subi (BitVec.ofNat 32 x) (BitVec.ofNat 32 y)) 0#32 = 1 ↔ y ≤ x := by
  have : (0#32).sle (IntOp.subi (BitVec.ofNat 32 x) (BitVec.ofNat 32 y)) = decide (y ≤ x) := by
    rw [BitVec.sle, sub_toInt hx hy]
    simp only [BitVec.toInt_zero, decide_eq_decide]
    omega
  show BitVec.ofBool ((0#32).sle _) = 1 ↔ _
  rw [this]
  by_cases hc : y ≤ x <;> simp [hc]

/-- The test that a key is at most 128 steps back. -/
theorem le_width {x y : ℕ} (hx : x < 2048) (hy : y < 2048) :
    IntOp.cmpi .sle (IntOp.subi (BitVec.ofNat 32 x) (BitVec.ofNat 32 y)) 128#32 = 1 ↔ x ≤ y + 128 := by
  have : (IntOp.subi (BitVec.ofNat 32 x) (BitVec.ofNat 32 y)).sle 128#32 = decide (x ≤ y + 128) := by
    rw [BitVec.sle, sub_toInt hx hy, show (128#32).toInt = 128 from rfl, decide_eq_decide]
    omega
  show BitVec.ofBool (BitVec.sle _ 128#32) = 1 ↔ _
  rw [this]
  by_cases hc : x ≤ y + 128 <;> simp [hc]

/-- Two tests at once. -/
theorem both_tests (p q : BitVec 1) : IntOp.andi p q = 1 ↔ p = 1 ∧ q = 1 := by
  revert p q; decide

/-- The distance of a key that is not ahead, as a number. -/
theorem dist_cast {x y : ℕ} (hx : x < 2048) (hy : y < 2048) (h : y ≤ x) :
    FloatOps.sitofp (F := Ideal) FTy.f32 (IntOp.subi (BitVec.ofNat 32 x) (BitVec.ofNat 32 y)) = (((x - y : ℕ) : ℝ) : EReal) := by
  show ((BitVec.toInt (IntOp.subi (BitVec.ofNat 32 x) (BitVec.ofNat 32 y)) : ℝ) : EReal) = _
  rw [sub_toInt hx hy, Nat.cast_sub h]
  norm_cast

/-- The float word of one. -/
theorem one_eq : Ideal.ofBits .f32 0x3F800000#32 = (((1 : ℕ) : ℝ) : EReal) := by
  norm_num [Ideal.ofBits, Ideal.ieee, Nat.shiftRight_eq_div_pow, show BitVec.extractLsb' 31 1 1065353216#32 = 0#1 from by decide]

/-- The float word of four. -/
theorem four_eq : Ideal.ofBits .f32 0x40800000#32 = (((4 : ℕ) : ℝ) : EReal) := by
  norm_num [Ideal.ofBits, Ideal.ieee, Nat.shiftRight_eq_div_pow, show BitVec.extractLsb' 31 1 1082130432#32 = 0#1 from by decide]

/-- The float word of sixteen. -/
theorem sixteen_eq : Ideal.ofBits .f32 0x41800000#32 = (((16 : ℕ) : ℝ) : EReal) := by
  norm_num [Ideal.ofBits, Ideal.ieee, Nat.shiftRight_eq_div_pow, show BitVec.extractLsb' 31 1 1098907648#32 = 0#1 from by decide]

/-- A bias of a block's own keys, as the kernel computes it. -/
theorem own_eq (D : ℕ) (a s : EReal) (hs : s = ((D : ℝ) : EReal)) (y : S128x128.Idx) :
    Scalar.select (IntOp.cmpi .sge (IntOp.subi (BitVec.ofNat 32 (y 0).val) (BitVec.ofNat 32 (y 1).val)) 0#32)
      ((0 : EReal) - a * s * FloatOps.sitofp (F := Ideal) FTy.f32 (IntOp.subi (BitVec.ofNat 32 (y 0).val) (BitVec.ofNat 32 (y 1).val)))
      (Ideal.ofBits .f32 0xFF800000#32) = own D a y := by
  have h0 : (y 0).val < 128 := (y 0).isLt
  have h1 : (y 1).val < 128 := (y 1).isLt
  have hc := ge_zero (x := (y 0).val) (y := (y 1).val) (by omega) (by omega)
  rw [Scalar.select, own, minus_inf]
  by_cases h : (y 1).val ≤ (y 0).val
  · rw [if_pos (hc.2 h), if_pos h, dist_cast (by omega) (by omega) h, fall_eq a D hs]
  · rw [if_neg fun e => h (hc.1 e), if_neg h]

/-- A bias of the keys of two blocks, as the kernel computes it. -/
theorem both_eq (D : ℕ) (a s : EReal) (hs : s = ((D : ℝ) : EReal)) (y : S128x256.Idx) :
    Scalar.select (IntOp.andi (IntOp.cmpi .sge (IntOp.subi (IntOp.addi (BitVec.ofNat 32 (y 0).val) 128#32) (BitVec.ofNat 32 (y 1).val)) 0#32)
        (IntOp.cmpi .sle (IntOp.subi (IntOp.addi (BitVec.ofNat 32 (y 0).val) 128#32) (BitVec.ofNat 32 (y 1).val)) 128#32))
      ((0 : EReal) - a * s * FloatOps.sitofp (F := Ideal) FTy.f32
        (IntOp.subi (IntOp.addi (BitVec.ofNat 32 (y 0).val) 128#32) (BitVec.ofNat 32 (y 1).val)))
      (Ideal.ofBits .f32 0xFF800000#32) = both D a y := by
  have h0 : (y 0).val < 128 := (y 0).isLt
  have h1 : (y 1).val < 256 := (y 1).isLt
  have e : IntOp.addi (BitVec.ofNat 32 (y 0).val) 128#32 = BitVec.ofNat 32 ((y 0).val + 128) := by
    rw [IntOp.addi, ← BitVec.ofNat_add]
  have hc := ge_zero (x := (y 0).val + 128) (y := (y 1).val) (by omega) (by omega)
  have hw := le_width (x := (y 0).val + 128) (y := (y 1).val) (by omega) (by omega)
  rw [Scalar.select, both, minus_inf, e]
  by_cases h : (y 1).val ≤ (y 0).val + 128 ∧ (y 0).val ≤ (y 1).val
  · rw [if_pos ((both_tests _ _).2 ⟨hc.2 h.1, hw.2 (by omega)⟩), if_pos h, dist_cast (by omega) (by omega) h.1, fall_eq a D hs]
  · rw [if_neg fun e => h (by
      obtain ⟨e0, e1⟩ := (both_tests _ _).1 e
      have := hc.1 e0
      have := hw.1 e1
      omega), if_neg h]

/-- A slope read by a grid point is the group's and head's. -/
theorem slope_eq {arg2 : Memref sig .tc .smem S3x8 .f32} (h2 : arg2.IsWhole) (x0 : S3x8.Idx → Elt Ideal .f32) (off : Fin 2 → ℕ)
    (g : Fin 3) (h : Fin 8) (ho : off = ![g.val, h.val]) (inb) (hp) :
    View.readAt (Elt Ideal) arg2.view (Rect.unit (s := S3x8) off S1x1.size inb).toLoadRect (h2.unread x0) (Shape.Idx.first hp) = x0 (ix2 g h) := by
  subst ho
  rw [h2.readAt_unread]
  refine congrArg x0 (funext fun a => Fin.ext ?_)
  fin_cases a
  · exact Nat.add_zero _
  · exact Nat.add_zero _

variable (c : Dev nD) (i : grid0.Coords) {arg2 : Memref sig .tc .smem S3x8 .f32} (h2 : arg2.IsWhole) (x0 : S3x8.Idx → Elt Ideal .f32)

/-- The first group's bias within a block of rows. -/
theorem bias_own0 : kernelRun0_A.sl.r_1 (F := Ideal) c i arg2 h2 x0 = own 1 (x0 (ix2 0 (i 1))) := by
  funext y
  have hr : kernelRun0_A.sl.r (F := Ideal) c i arg2 h2 x0 = x0 (ix2 0 (i 1)) := slope_eq h2 x0 _ 0 (i 1) (k0_off1_eq i) _ _
  rw [kernelRun0_A.sl.r_1, hr]
  generalize x0 (ix2 0 (i 1)) = a
  refine Eq.trans ?_ (own_eq 1 a _ one_eq y)
  pointwise [k0_pay7, k0_pay4, k0_pay6]

/-- The first group's bias over two neighbouring blocks. -/
theorem bias_both0 : kernelRun0_A.sl.r_2 (F := Ideal) c i arg2 h2 x0 = both 1 (x0 (ix2 0 (i 1))) := by
  funext y
  have hr : kernelRun0_A.sl.r (F := Ideal) c i arg2 h2 x0 = x0 (ix2 0 (i 1)) := slope_eq h2 x0 _ 0 (i 1) (k0_off1_eq i) _ _
  rw [kernelRun0_A.sl.r_2, hr]
  generalize x0 (ix2 0 (i 1)) = a
  refine Eq.trans ?_ (both_eq 1 a _ one_eq y)
  pointwise [k0_pay8, k0_pay5, k0_pay6]

/-- The second group's bias within a block of rows. -/
theorem bias_own1 : kernelRun0_A.sl.r_78 (F := Ideal) c i arg2 h2 x0 = own 4 (x0 (ix2 1 (i 1))) := by
  funext y
  have hr : kernelRun0_A.sl.r_77 (F := Ideal) c i arg2 h2 x0 = x0 (ix2 1 (i 1)) := slope_eq h2 x0 _ 1 (i 1) (k0_off2_eq i) _ _
  rw [kernelRun0_A.sl.r_78, hr]
  generalize x0 (ix2 1 (i 1)) = a
  refine Eq.trans ?_ (own_eq 4 a _ four_eq y)
  pointwise [k0_pay118, k0_pay4, k0_pay117]

/-- The second group's bias over two neighbouring blocks. -/
theorem bias_both1 : kernelRun0_A.sl.r_80 (F := Ideal) c i arg2 h2 x0 = both 4 (x0 (ix2 1 (i 1))) := by
  funext y
  have hr : kernelRun0_A.sl.r_77 (F := Ideal) c i arg2 h2 x0 = x0 (ix2 1 (i 1)) := slope_eq h2 x0 _ 1 (i 1) (k0_off2_eq i) _ _
  rw [kernelRun0_A.sl.r_80, kernelRun0_A.sl.r_79, hr]
  generalize x0 (ix2 1 (i 1)) = a
  refine Eq.trans ?_ (both_eq 4 a _ four_eq y)
  pointwise [k0_pay121, k0_pay120, k0_pay119, k0_pay5, k0_pay117]

/-- The third group's bias within its only block of rows. -/
theorem bias_own2 : kernelRun0_A.sl.r_138 (F := Ideal) c i arg2 h2 x0 = own 16 (x0 (ix2 2 (i 1))) := by
  funext y
  have hr : kernelRun0_A.sl.r_136 (F := Ideal) c i arg2 h2 x0 = x0 (ix2 2 (i 1)) := slope_eq h2 x0 _ 2 (i 1) (k0_off3_eq i) _ _
  rw [kernelRun0_A.sl.r_138, kernelRun0_A.sl.r_137, hr]
  generalize x0 (ix2 2 (i 1)) = a
  refine Eq.trans ?_ (own_eq 16 a _ sixteen_eq y)
  pointwise [k0_pay216, k0_pay215, k0_pay214, k0_pay213, k0_pay4]

end Cert.Proof.Attn
-- ==== Proof.AttnBlocks.lean ====
/-
  What the blocks of the attention kernel hold: each is the rows of one batch for the queries, keys or values of one group
  and head of the packed projection.
-/
module

public import proofs.«01_k».proof.Proof.Gen.KernelIdeal.Value
public import proofs.«01_k».proof.Proof.AttnBias
public import Idealize.ShloMosaic.Lib.Pipeline.ValueKit
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen
open Cert.Proof.AttnRef (entry)

/-- Where each window's block sits at a grid point. -/
theorem idxs : ∀ t : Fin cfg0.N, win0_0.index t = ![0, 0]
    ∧ win0_1.index t = ![(grid0.coords t 0).val, 0, (grid0.coords t 1).val]
    ∧ win0_2.index t = ![(grid0.coords t 0).val, 0, (grid0.coords t 1).val + 24]
    ∧ win0_3.index t = ![(grid0.coords t 0).val, 0, (grid0.coords t 1).val + 48]
    ∧ win0_4.index t = ![(grid0.coords t 0).val, 0, (grid0.coords t 1).val + 8]
    ∧ win0_5.index t = ![(grid0.coords t 0).val, 0, (grid0.coords t 1).val + 32]
    ∧ win0_6.index t = ![(grid0.coords t 0).val, 0, (grid0.coords t 1).val + 56]
    ∧ win0_7.index t = ![(grid0.coords t 0).val, 0, (grid0.coords t 1).val + 16]
    ∧ win0_8.index t = ![(grid0.coords t 0).val, 0, (grid0.coords t 1).val + 40]
    ∧ win0_9.index t = ![(grid0.coords t 0).val, 0, (grid0.coords t 1).val + 64]
    ∧ win0_10.index t = ![(grid0.coords t 0).val, 0, (grid0.coords t 1).val] :=
  (by decide +kernel : ∀ t : Fin grid0.N, _)

variable (m : (ℓ : Loc nD τ sig) → Buf (Elt Ideal) ℓ) (c : Dev nD) (t : Fin cfg0.N)

/-- The rows of batch `b` for one third `k`, group `g` and head `h` of the packed projection, as one block. -/
def part (X : S8192x21504.Idx → EReal) (k g : ℕ) (b : Fin 4) (h : Fin 8) : S1x2048x128.Idx → EReal :=
  fun y => entry X k g b h (y 1).val (y 2)

/-- The slopes' block is the slopes. -/
theorem slopes_block : iblk m c 0 t = m ((c : Thread nD τ).loc main_arg1) := by
  funext y
  blk_point [iblk, V, idxs t]

/-- The queries' blocks. -/
theorem query_blocks :
    iblk m c 1 t = part (m ((c : Thread nD τ).loc main_arg0)) 0 0 (grid0.coords t 0) (grid0.coords t 1)
    ∧ iblk m c 4 t = part (m ((c : Thread nD τ).loc main_arg0)) 0 1 (grid0.coords t 0) (grid0.coords t 1)
    ∧ iblk m c 7 t = part (m ((c : Thread nD τ).loc main_arg0)) 0 2 (grid0.coords t 0) (grid0.coords t 1) := by
  refine ⟨funext fun y => ?_, funext fun y => ?_, funext fun y => ?_⟩ <;> unfold part <;> blk_point [iblk, V, idxs t]

/-- The keys' blocks. -/
theorem key_blocks :
    iblk m c 2 t = part (m ((c : Thread nD τ).loc main_arg0)) 1 0 (grid0.coords t 0) (grid0.coords t 1)
    ∧ iblk m c 5 t = part (m ((c : Thread nD τ).loc main_arg0)) 1 1 (grid0.coords t 0) (grid0.coords t 1)
    ∧ iblk m c 8 t = part (m ((c : Thread nD τ).loc main_arg0)) 1 2 (grid0.coords t 0) (grid0.coords t 1) := by
  refine ⟨funext fun y => ?_, funext fun y => ?_, funext fun y => ?_⟩ <;> unfold part <;> blk_point [iblk, V, idxs t]

/-- The values' blocks. -/
theorem value_blocks :
    iblk m c 3 t = part (m ((c : Thread nD τ).loc main_arg0)) 2 0 (grid0.coords t 0) (grid0.coords t 1)
    ∧ iblk m c 6 t = part (m ((c : Thread nD τ).loc main_arg0)) 2 1 (grid0.coords t 0) (grid0.coords t 1)
    ∧ iblk m c 9 t = part (m ((c : Thread nD τ).loc main_arg0)) 2 2 (grid0.coords t 0) (grid0.coords t 1) := by
  refine ⟨funext fun y => ?_, funext fun y => ?_, funext fun y => ?_⟩ <;> unfold part <;> blk_point [iblk, V, idxs t]

end Cert.Proof.Attn
-- ==== Proof.AttnMatch.lean ====
/-
  The attention kernel lists the keys of a row block by block, the reference in steps back from the row: the two lists have
  the same keys with the same scores, and every other key has score minus infinity.
-/
module

public import proofs.«01_k».proof.Proof.Gen.KernelIdeal.Value
public import proofs.«01_k».proof.Proof.AttnBlocks
public import Idealize.ShloMosaic.Lib.Pipeline.ValueKit
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen
open Cert.Proof.AttnRef (entry refScore refValue refLse refOut)

variable (X : S8192x21504.Idx → EReal) (k g : ℕ) (bt : Fin 4) (h : Fin 8) (D : ℕ) (n : Fin 2048) (a : EReal) (d : Fin 128)

/-- An entry of a block, at a row. -/
theorem part_pos (p : ℕ) : part X k g bt h (ix3 0 (pos p) d) = entry X k g bt h p d := by
  show entry X k g bt h (p % 2048) d = _
  rw [entry, entry]
  exact congrArg X (congrArg₂ ix2 (Fin.ext (by show 2048 * bt.val + p % 2048 % 2048 = 2048 * bt.val + p % 2048; rw [Nat.mod_mod])) rfl)

/-- The first row of a first block. -/
theorem first_lt {b : ℕ} (hb : b < D) : first D b = b := by
  rw [first, Nat.mod_eq_of_lt hb, Nat.div_eq_of_lt hb, Nat.mul_zero, Nat.add_zero]

/-- The block before a block starts 128 steps earlier. -/
theorem first_sub (hD : 0 < D) {b : ℕ} (hb : D ≤ b) : first D b = first D (b - D) + 128 * D := by
  obtain ⟨b', rfl⟩ := Nat.exists_eq_add_of_le hb
  rw [first, first, Nat.add_sub_cancel_left, Nat.add_mod_left, Nat.add_div_left _ hD, Nat.mul_succ, Nat.add_assoc]

/-- The place, among the keys of two blocks, of the key `j` steps back from row `r`. -/
def spot (r : Fin 128) (j : Fin 129) : Fin 256 := ⟨r.val + 128 - j.val, by omega⟩

/-- The row of a query, among the rows of its block. -/
theorem query_row (hD : 0 < D) (x : S1x2048x128.Idx → EReal) :
    slab x (first D (blk D n.val)) D (ix3 0 (row D n.val) d) = x (ix3 0 (pos n.val) d) :=
  congrArg (fun p => x (ix3 0 (pos p) d)) (first_blk hD n.val).symm

/-- A step that stays in a first block is not longer than the row's place in it. -/
theorem le_of_first {b r j : ℕ} (hb : b < D) (h : D * j ≤ b + D * r) : j ≤ r := by
  by_contra hj
  have : D * (r + 1) ≤ D * j := Nat.mul_le_mul_left _ (by omega)
  rw [Nat.mul_add] at this
  omega

/-- The row of a key, among the rows of the two blocks. -/
theorem key_row (hD : 0 < D) (x : S1x2048x128.Idx → EReal) (j : Fin 129) (hj : D * j.val ≤ n.val) :
    pairSlab x (first D (prev D (blk D n.val))) (first D (blk D n.val)) D (ix3 0 (spot (row D n.val) j) d) = x (ix3 0 (pos (n.val - D * j.val)) d) := by
  have hn := first_blk hD n.val
  have hr := (row D n.val).isLt
  have hj' := j.isLt
  generalize blk D n.val = b at hn ⊢
  generalize row D n.val = r at hn hr ⊢
  show (if r.val + 128 - j.val < 128 then x (ix3 0 (pos (first D (prev D b) + D * (r.val + 128 - j.val))) d)
    else x (ix3 0 (pos (first D b + D * (r.val + 128 - j.val - 128))) d)) = _
  by_cases hc : r.val + 128 - j.val < 128
  · have hb : ¬ b < D := fun hb => by
      rw [first_lt D hb] at hn
      have := le_of_first D hb (hn ▸ hj)
      omega
    rw [if_pos hc, prev, if_neg hb]
    have h1 := first_sub D hD (Nat.le_of_not_lt hb)
    have h2 : D * (r.val + 128 - j.val) + D * j.val = D * r.val + D * 128 := by
      rw [← Nat.mul_add, ← Nat.mul_add, Nat.sub_add_cancel (by omega)]
    refine congrArg (fun p => x (ix3 0 (pos p) d)) ?_
    rw [Nat.mul_comm D 128] at h2
    omega
  · rw [if_neg hc]
    have h2 : D * (r.val + 128 - j.val - 128) + D * j.val = D * r.val := by
      rw [← Nat.mul_add]
      exact congrArg (D * ·) (by omega)
    refine congrArg (fun p => x (ix3 0 (pos p) d)) ?_
    omega

/-- The kernel's list of keys of a row, over two blocks, is the plain one. -/
theorem lists_both (hD : 0 < D) :
    Lists (spot (row D n.val)) (fun j => D * j.val ≤ n.val)
      (score D (own D a) (both D a) (part X 0 g bt h) (part X 1 g bt h) (blk D n.val) (row D n.val))
      (refScore D X bt h g a n.val) where
  inj i j hi hj e := by
    have := congrArg Fin.val e
    have hi' : (spot (row D n.val) i).val = (row D n.val).val + 128 - i.val := rfl
    have hj' : (spot (row D n.val) j).val = (row D n.val).val + 128 - j.val := rfl
    have := i.isLt
    have := j.isLt
    exact Fin.ext (by omega)
  on j hj := by
    rw [score, refScore, if_pos hj]
    simp only [query_row D n _ hD, key_row D n _ hD _ j hj, part_pos]
    refine congrArg₂ (fun u v : EReal => u + v) rfl ?_
    have hn := first_blk hD n.val
    have hr := (row D n.val).isLt
    have hj' := j.isLt
    generalize blk D n.val = b at hn ⊢
    generalize row D n.val = r at hn hr ⊢
    rw [bias]
    show _ = fall a (D * j.val)
    by_cases hb : b < D
    · rw [first_lt D hb] at hn
      have hle := le_of_first D hb (hn ▸ hj)
      have hs : ¬ (spot r j).val < 128 := by
        show ¬ r.val + 128 - j.val < 128
        omega
      rw [if_pos hb, dif_neg hs, own]
      show (if r.val + 128 - j.val - 128 ≤ r.val then fall a (D * (r.val - (r.val + 128 - j.val - 128))) else ⊥) = _
      rw [if_pos (by omega), show r.val - (r.val + 128 - j.val - 128) = j.val by omega]
    · rw [if_neg hb, both]
      show (if r.val + 128 - j.val ≤ r.val + 128 ∧ r.val ≤ r.val + 128 - j.val then fall a (D * (r.val + 128 - (r.val + 128 - j.val))) else ⊥) = _
      rw [if_pos (by omega), show r.val + 128 - (r.val + 128 - j.val) = j.val by omega]
  off c hc := by
    rw [score]
    suffices hb : bias D (own D a) (both D a) (blk D n.val) (row D n.val) c = ⊥ by rw [hb, EReal.add_bot]
    have hn := first_blk hD n.val
    have hr := (row D n.val).isLt
    have hcl := c.isLt
    generalize blk D n.val = b at hn hc ⊢
    generalize row D n.val = r at hn hr hc ⊢
    rw [bias]
    by_cases hb : b < D
    · rw [if_pos hb]
      by_cases h1 : c.val < 128
      · rw [dif_pos h1, minus_inf]
      · rw [dif_neg h1, own]
        show (if c.val - 128 ≤ r.val then _ else ⊥) = _
        rw [if_neg fun h2 => hc ⟨r.val + 128 - c.val, by omega⟩ (by
          show D * (r.val + 128 - c.val) ≤ n.val
          have : D * (r.val + 128 - c.val) ≤ D * r.val := Nat.mul_le_mul_left _ (by omega)
          omega) (Fin.ext (by
          show r.val + 128 - (r.val + 128 - c.val) = c.val
          omega))]
    · rw [if_neg hb, both]
      show (if c.val ≤ r.val + 128 ∧ r.val ≤ c.val then _ else ⊥) = _
      rw [if_neg fun h2 => hc ⟨r.val + 128 - c.val, by omega⟩ (by
          show D * (r.val + 128 - c.val) ≤ n.val
          have h3 : D * (r.val + 128 - c.val) ≤ D * 128 := Nat.mul_le_mul_left _ (by omega)
          have h1 := first_sub D hD (Nat.le_of_not_lt hb)
          rw [Nat.mul_comm D 128] at h3
          omega) (Fin.ext (by
          show r.val + 128 - (r.val + 128 - c.val) = c.val
          omega))]
  out j hj := by rw [refScore, if_neg hj]

/-- The place, among a first block's own keys, of the key `j` steps back from row `r`. -/
def spotOwn (r : Fin 128) (j : Fin 129) : Fin 128 := ⟨r.val - j.val, by omega⟩

/-- The row of a key, among the rows of a first block. -/
theorem key_row_own (hD : 0 < D) (hb : blk D n.val < D) (x : S1x2048x128.Idx → EReal) (j : Fin 129) (hj : D * j.val ≤ n.val) :
    slab x (first D (blk D n.val)) D (ix3 0 (spotOwn (row D n.val) j) d) = x (ix3 0 (pos (n.val - D * j.val)) d) := by
  have hn := first_blk hD n.val
  generalize blk D n.val = b at hn hb ⊢
  generalize row D n.val = r at hn ⊢
  show x (ix3 0 (pos (first D b + D * (r.val - j.val))) d) = _
  have hle := le_of_first D hb ((first_lt D hb ▸ hn) ▸ hj)
  have h2 : D * (r.val - j.val) + D * j.val = D * r.val := by
    rw [← Nat.mul_add]
    exact congrArg (D * ·) (by omega)
  refine congrArg (fun p => x (ix3 0 (pos p) d)) ?_
  omega

/-- The kernel's list of keys of a row, within a first block, is the plain one. -/
theorem lists_own (hD : 0 < D) (hb : blk D n.val < D) :
    Lists (spotOwn (row D n.val)) (fun j => D * j.val ≤ n.val)
      (scoreOwn D (own D a) (part X 0 g bt h) (part X 1 g bt h) (blk D n.val) (row D n.val))
      (refScore D X bt h g a n.val) := by
  have hn := first_blk hD n.val
  rw [first_lt D hb] at hn
  have hle : ∀ j : Fin 129, D * j.val ≤ n.val → j.val ≤ (row D n.val).val := fun j hj => le_of_first D hb (hn ▸ hj)
  refine ⟨fun i j hi hj e => ?_, fun j hj => ?_, fun c hc => ?_, fun j hj => by rw [refScore, if_neg hj]⟩
  · have h0 : (row D n.val).val - i.val = (row D n.val).val - j.val := congrArg Fin.val e
    have := hle i hi
    have := hle j hj
    exact Fin.ext (by omega)
  · rw [scoreOwn, refScore, if_pos hj]
    simp only [query_row D n _ hD, key_row_own D n _ hD hb _ j hj, part_pos]
    refine congrArg₂ (fun u v : EReal => u + v) rfl ?_
    have := hle j hj
    generalize row D n.val = r at this ⊢
    show (if r.val - j.val ≤ r.val then fall a (D * (r.val - (r.val - j.val))) else ⊥) = fall a (D * j.val)
    rw [if_pos (by omega), show r.val - (r.val - j.val) = j.val by omega]
  · rw [scoreOwn]
    suffices hb : own D a (ix2 (row D n.val) c) = ⊥ by rw [hb, EReal.add_bot]
    generalize row D n.val = r at hn hc ⊢
    rw [own]
    show (if c.val ≤ r.val then _ else ⊥) = _
    rw [if_neg fun h2 => hc ⟨r.val - c.val, by omega⟩ (by
      show D * (r.val - c.val) ≤ n.val
      have : D * (r.val - c.val) ≤ D * r.val := Nat.mul_le_mul_left _ (by omega)
      omega) (Fin.ext (by
      show r.val - (r.val - c.val) = c.val
      omega))]

/-- A number that is neither infinity. -/
def IsReal (x : EReal) : Prop := ∃ r : ℝ, x = (r : EReal)

/-- A product of numbers is a number. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A sum of numbers is a number. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- The opposite of a number is a number. -/
theorem IsReal.neg {x : EReal} (hx : IsReal x) : IsReal (-x) := by
  obtain ⟨r, rfl⟩ := hx
  exact ⟨-r, (EReal.coe_neg r).symm⟩

/-- The scale is a number. -/
theorem scale_real : IsReal scale := by
  refine ⟨11863283 * 2 ^ (-27 : ℤ), ?_⟩
  norm_num [scale, Ideal.ofBits, Ideal.ieee, Nat.shiftRight_eq_div_pow, show BitVec.extractLsb' 31 1 1035273459#32 = 0#1 from by decide]

/-- The inputs the scores are made of are numbers: the queries and keys, and the slopes. -/
def Numbers (X : S8192x21504.Idx → EReal) (Sl : S3x8.Idx → EReal) : Prop :=
  (∀ i, (i 1).val < 6144 → IsReal (X i)) ∧ ∀ i, IsReal (Sl i)

/-- The score of a key that exists is a number. -/
theorem refScore_real {Sl : S3x8.Idx → EReal} (hN : Numbers X Sl) (hg : g < 3) (i : S3x8.Idx) (j : Fin 129) (hj : D * j.val ≤ n.val) :
    IsReal (refScore D X bt h g (Sl i) n.val j) := by
  have he : ∀ k p d, k < 2 → IsReal (entry X k g bt h p d) := fun k p d hk => hN.1 _ (by
    have := h.isLt
    have := d.isLt
    show ((24 * k + 8 * g + h.val) * 128 + d.val) % 21504 < 6144
    omega)
  rw [refScore, if_pos hj]
  refine IsReal.add (IsReal.mul ?_ scale_real) (IsReal.mul (hN.2 i).neg ⟨_, rfl⟩)
  exact Finset.sum_induction _ IsReal (fun _ _ => IsReal.add) ⟨0, rfl⟩ fun d _ => (he 0 _ d (by decide)).mul (he 1 _ d (by decide))

/-- A row's softmax denominator is not zero. -/
theorem mass_ne {Sl : S3x8.Idx → EReal} (hN : Numbers X Sl) (hg : g < 3) (i : S3x8.Idx) : mass (refScore D X bt h g (Sl i) n.val) ≠ 0 := by
  refine mass_ne_zero _ (fun j => ?_) (j0 := 0) ?_
  · by_cases hj : D * j.val ≤ n.val
    · obtain ⟨r, hr⟩ := refScore_real X g bt h D n hN hg i j hj
      rw [hr]
      exact EReal.coe_ne_top r
    · rw [refScore, if_neg hj]
      exact bot_ne_top
  · obtain ⟨r, hr⟩ := refScore_real X g bt h D n hN hg i 0 (Nat.zero_le _)
    rw [hr]
    exact EReal.coe_ne_bot r

end Cert.Proof.Attn
-- ==== Proof.AttnFinal.lean ====
/-
  The attention kernel's result array is the reference's, when the queries, keys and slopes are numbers.
-/
module

public import proofs.«01_k».proof.Proof.Gen.KernelIdeal.Value
public import proofs.«01_k».proof.Proof.AttnMatch
public import Idealize.ShloMosaic.Lib.Pipeline.ValueKit
public import Idealize.ShloMosaic.Lib.Claim
public import Idealize.ShloMosaic.Lib.WholeRead

@[expose] public section

set_option maxRecDepth 16384

noncomputable section

namespace Cert.Proof.Attn

open Idealize.ShloMosaic Idealize.ShloMosaic.TcCoe Idealize.SL.Sem
open Idealize.ShloMosaic.Pipeline (Dat)
open Cert.KernelIdeal Cert.KernelIdeal.Gen
open Cert.Proof.AttnRef (entry refScore refValue refLse refOut)

variable (m : (ℓ : Loc nD τ sig) → Buf (Elt Ideal) ℓ) (c : Dev nD) (t : Fin cfg0.N)

/-- Where an index of a point's block of the result sits in the result. -/
theorem emb_eq (y : S1x2048x128.Idx) : ((cfg0.win 10).blk t).view.emb y = ix3 (grid0.coords t 0) (y 1)
    ⟨(grid0.coords t 1).val * 128 + (y 2).val, by
      have h1 : (grid0.coords t 1).val < 8 := (grid0.coords t 1).isLt
      have h2 : (y 2).val < 128 := (y 2).isLt
      omega⟩ := by
  blk_point [idxs t]

variable (X : S8192x21504.Idx → EReal) (Sl : S3x8.Idx → EReal) (hN : Numbers X Sl)
  (i : grid0.Coords) {arg2 : Memref sig .tc .smem S3x8 .f32} (h2 : arg2.IsWhole) (n : Fin 2048) (d : Fin 128) (g : Fin 3)

/-- The log-sums of the kernel are the reference's. -/
theorem lses_eq : lses c i h2 Sl (part X 0 0 (i 0) (i 1)) (part X 1 0 (i 0) (i 1)) (part X 0 1 (i 0) (i 1)) (part X 1 1 (i 0) (i 1))
    (part X 0 2 (i 0) (i 1)) (part X 1 2 (i 0) (i 1)) g.val (blk (4 ^ g.val) n.val) (row (4 ^ g.val) n.val) = refLse X Sl (i 0) (i 1) n.val g := by
  rw [lses, bias_own0, bias_both0, bias_own1, bias_both1, bias_own2]
  fin_cases g
  · exact (lists_both X 0 (i 0) (i 1) 1 n _ (by decide)).lse_eq
  · exact (lists_both X 1 (i 0) (i 1) 4 n _ (by decide)).lse_eq
  · exact (lists_own X 2 (i 0) (i 1) 16 n _ (by decide) (by
      have := n.isLt
      rw [blk]
      omega)).lse_eq

/-- A row's attention over two blocks is the plain one. -/
theorem rowOut_eq {X : S8192x21504.Idx → EReal} {Sl : S3x8.Idx → EReal} (hN : Numbers X Sl) {g D : ℕ} (hg : g < 3) (hD : 0 < D) (bt : Fin 4)
    (h : Fin 8) (n : Fin 2048) (d : Fin 128) (z : S3x8.Idx) :
    rowOut D (own D (Sl z)) (both D (Sl z)) (part X 0 g bt h) (part X 1 g bt h) (part X 2 g bt h) (blk D n.val) (row D n.val) d
      = mean (refScore D X bt h g (Sl z) n.val) (refValue D X bt h d g n.val) := by
  rw [rowOut]
  refine (lists_both X g bt h D n (Sl z) hD).mean_eq (fun j hj => ?_) (mass_ne X g bt h D n hN hg z)
  exact (key_row D n d hD _ j hj).trans (part_pos X 2 g bt h d _)

/-- A row's attention within a first block is the plain one. -/
theorem ownOut_eq {X : S8192x21504.Idx → EReal} {Sl : S3x8.Idx → EReal} (hN : Numbers X Sl) {g D : ℕ} (hg : g < 3) (hD : 0 < D) (bt : Fin 4)
    (h : Fin 8) (n : Fin 2048) (hb : blk D n.val < D) (d : Fin 128) (z : S3x8.Idx) :
    ownOut D (own D (Sl z)) (part X 0 g bt h) (part X 1 g bt h) (part X 2 g bt h) (blk D n.val) (row D n.val) d
      = mean (refScore D X bt h g (Sl z) n.val) (refValue D X bt h d g n.val) := by
  rw [ownOut]
  refine (lists_own X g bt h D n (Sl z) hD hb).mean_eq (fun j hj => ?_) (mass_ne X g bt h D n hN hg z)
  exact (key_row_own D n d hD hb _ j hj).trans (part_pos X 2 g bt h d _)

include hN in
/-- The attentions of the kernel are the reference's. -/
theorem outs_eq_ref : outs c i h2 Sl (part X 0 0 (i 0) (i 1)) (part X 1 0 (i 0) (i 1)) (part X 2 0 (i 0) (i 1)) (part X 0 1 (i 0) (i 1))
    (part X 1 1 (i 0) (i 1)) (part X 2 1 (i 0) (i 1)) (part X 0 2 (i 0) (i 1)) (part X 1 2 (i 0) (i 1)) (part X 2 2 (i 0) (i 1))
    g.val (blk (4 ^ g.val) n.val) (row (4 ^ g.val) n.val) d = refOut X Sl (i 0) (i 1) d n.val g := by
  rw [outs, bias_own0, bias_both0, bias_own1, bias_both1, bias_own2]
  fin_cases g
  · exact rowOut_eq hN (by decide) (by decide) (i 0) (i 1) n d (ix2 0 (i 1))
  · exact rowOut_eq hN (by decide) (by decide) (i 0) (i 1) n d (ix2 1 (i 1))
  · exact ownOut_eq hN (by decide) (by decide) (i 0) (i 1) n (by
      have := n.isLt
      rw [blk]
      omega) d (ix2 2 (i 1))

/-- What a grid point stores at an index of its block is the reference there. -/
theorem point (hN : Numbers (m ((c : Thread nD τ).loc main_arg0)) (m ((c : Thread nD τ).loc main_arg1))) (y : S1x2048x128.Idx) :
    outsAt0 (F := Ideal) m c t y = blend (refLse (m ((c : Thread nD τ).loc main_arg0)) (m ((c : Thread nD τ).loc main_arg1)) (grid0.coords t 0) (grid0.coords t 1) (y 1).val)
      (refOut (m ((c : Thread nD τ).loc main_arg0)) (m ((c : Thread nD τ).loc main_arg1)) (grid0.coords t 0) (grid0.coords t 1) (y 2) (y 1).val) := by
  rw [outs_eq, slopes_block]
  obtain ⟨e1, e4, e7⟩ := query_blocks m c t
  obtain ⟨e2, e5, e8⟩ := key_blocks m c t
  obtain ⟨e3, e6, e9⟩ := value_blocks m c t
  rw [e1, e2, e3, e4, e5, e6, e7, e8, e9]
  exact congrArg₂ blend (funext fun g => lses_eq c _ _ _ _ (y 1) g) (funext fun g => outs_eq_ref c _ _ hN _ _ (y 1) (y 2) g)

/-- The result array after the run is the reference's. -/
theorem final (hN : Numbers (m ((c : Thread nD τ).loc main_arg0)) (m ((c : Thread nD τ).loc main_arg1))) : (dats m 0 c).arrAt 10 (cfgs 0).N
    = Cert.ReferenceIdeal.Read.val_main_v222 (F := Ideal) (m ((c : Thread nD τ).loc main_arg0)) (m ((c : Thread nD τ).loc main_arg1)) := by
  refine (dats m 0 c).arrAt_eq_of_covers 10 _ (by decide +kernel) fun t _ y => ?_
  blk_simp
  rw [after0_10]
  refine (point m c t hN y).trans ?_
  rw [show (win0_10.blk t).view.emb y = _ from emb_eq t y]
  exact (Cert.Proof.AttnRef.ref_apply _ _ (grid0.coords t 1) (y 2) (ix3 _ _ _) rfl).symm

end Cert.Proof.Attn
-- ==== Proof.AttnClaim.lean ====
/-
  The value claim of the attention, from the precondition that the queries, keys and slopes are finite numbers.
-/
module

public import proofs.«01_k».proof.Defs
public import proofs.«01_k».proof.Proof.AttnFinal
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.SL.Sem

/-- The shape relations that the precondition's operations take. -/
instance factsFinite : Cert.Pre_finite.Facts where
  slices_S8192x21504_S8192x6144_0_0 := by decide
  bcast_S_S8192x6144 := by decide
  bcast_S_S3x8 := by decide

/-- Infinity is not less than itself. -/
theorem top_not_lt : ¬ Ideal.cmp .olt ⊤ ⊤ = 1#1 := by
  simp [Ideal.cmp]

/-- A number whose absolute value is less than infinity is neither infinity. -/
theorem isReal_of_lt {x : EReal} (h : FloatOps.cmpf (F := Ideal) (φ := .f32) .olt (FloatOps.absf (F := Ideal) (φ := .f32) x) (Ideal.ofBits .f32 0x7F800000#32) = 1#1) :
    Attn.IsReal x := by
  have hi : Ideal.ofBits .f32 0x7F800000#32 = ⊤ := by
    simp [Ideal.ofBits, Ideal.ieee]
  rw [hi] at h
  induction x with
  | bot => exact absurd h top_not_lt
  | top => exact absurd h top_not_lt
  | coe r => exact ⟨r, rfl⟩

/-- The precondition says that the queries, keys and slopes are numbers. -/
theorem numbers_of_finite (X : Cert.KernelIdeal.S8192x21504.Idx → EReal) (Sl : Cert.KernelIdeal.S3x8.Idx → EReal)
    (h : (Cert.Pre_finite.fn (F := Ideal) X Sl).1 = (fun _ => 1#1) ∧ (Cert.Pre_finite.fn (F := Ideal) X Sl).2 = (fun _ => 1#1)) :
    Attn.Numbers X Sl := by
  refine ⟨fun i hi => isReal_of_lt ?_, fun i => isReal_of_lt ?_⟩
  · refine Eq.trans ?_ (congrFun h.1 (ix2 (i 0) ⟨(i 1).val, hi⟩))
    rw [Cert.Pre_finite.fn]
    pointwise []
  · refine Eq.trans ?_ (congrFun h.2 i)
    rw [Cert.Pre_finite.fn]
    pointwise []

/-- The attention equals its reference when the queries, keys and slopes are numbers. -/
theorem algebraic1 : Cert.algebraic_KernelIdeal_ReferenceIdeal_pre_finite := by
  pair_intro
  · run_from Cert.KernelIdeal.Gen.run_main m g
  · run_from Cert.ReferenceIdeal.Value.run (F := Ideal) m' g'
    refine (Cert.ReferenceIdeal.Read.val_main_v222_eq (F := Ideal) ..).trans ?_
    refine Eq.trans ?_ (Attn.final m c (numbers_of_finite _ _ (hpre c))).symm
    exact congrArg₂ (Cert.ReferenceIdeal.Read.val_main_v222 (F := Ideal)) (hagree c).1 (hagree c).2

end Cert.Proof

end
-- ==== Proof.lean ====
/- All the claims of the layer, put together: each program runs to the end and keeps its arguments, each
   idealization is the allowed one, and each kernel's results are its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import Idealize.ShloMosaic.Adequacy
public import Idealize.ShloMosaic.Init
public import proofs.«01_k».proof.Proof.References
public import proofs.«01_k».proof.Proof.Claims
public import proofs.«01_k».proof.Proof.SpatialGateClaim
public import proofs.«01_k».proof.Proof.AttnClaim

@[expose] public section

noncomputable section

namespace Cert.Proof

open Idealize.ShloMosaic Idealize.SL.Sem Cert.Kernel

/-- All the claims: the frames, the idealizations, the values. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, factsFinite,
  fun m ρ _ => Cert.Kernel.Gen.frame (F := Bits) m ρ,
  fun m ρ _ => Cert.KernelIdeal.Gen.frame (F := Ideal) m ρ,
  fun m ρ _ => Cert.KernelIdeal.Gen.frame (F := Ideal) m ρ,
  frame_reference1,
  fun m ρ _ => frame_reference1 m ρ trivial,
  fun m ρ _ => Cert.Kernel2.Gen.frame (F := Bits) m ρ,
  fun m ρ _ => Cert.Kernel2Ideal.Gen.frame (F := Ideal) m ρ,
  frame_reference2,
  fun m ρ _ => Cert.Kernel3.Gen.frame (F := Bits) m ρ,
  fun m ρ _ => Cert.Kernel3Ideal.Gen.frame (F := Ideal) m ρ,
  frame_reference3,
  fun m ρ _ => Cert.Kernel4.Gen.frame (F := Bits) m ρ,
  fun m ρ _ => Cert.Kernel4Ideal.Gen.frame (F := Ideal) m ρ,
  frame_reference4,
  fun m ρ _ => Cert.Kernel5.Gen.frame (F := Bits) m ρ,
  fun m ρ _ => Cert.Kernel5Ideal.Gen.frame (F := Ideal) m ρ,
  frame_reference5,
  fun m ρ _ => Cert.Kernel6.Gen.frame (F := Bits) m ρ,
  fun m ρ _ => Cert.Kernel6Ideal.Gen.frame (F := Ideal) m ρ,
  frame_reference6,
  fun m ρ _ => Cert.Kernel7.Gen.frame (F := Bits) m ρ,
  fun m ρ _ => Cert.Kernel7Ideal.Gen.frame (F := Ideal) m ρ,
  frame_reference7,
  fun m ρ _ => Cert.Kernel8.Gen.frame (F := Bits) m ρ,
  fun m ρ _ => Cert.Kernel8Ideal.Gen.frame (F := Ideal) m ρ,
  frame_reference8,
  fun m ρ _ => Cert.Kernel9.Gen.frame (F := Bits) m ρ,
  fun m ρ _ => Cert.Kernel9Ideal.Gen.frame (F := Ideal) m ρ,
  frame_reference9,
  trivial,
  algebraic1,
  trivial,
  algebraic2,
  trivial,
  algebraic3,
  trivial,
  algebraic4,
  trivial,
  algebraic5,
  trivial,
  algebraic6,
  trivial,
  algebraic7,
  trivial,
  algebraic8,
  trivial,
  algebraic9⟩

end Cert.Proof

end
